-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v289) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x512x512 : Shape := ⟨4, ![4, 1, 512, 512]⟩
abbrev S25 : Shape := ⟨1, ![25]⟩
abbrev S25x2 : Shape := ⟨2, ![25, 2]⟩
abbrev S2 : Shape := ⟨1, ![2]⟩
abbrev S4x512x512 : Shape := ⟨3, ![4, 512, 512]⟩
abbrev S4x262144 : Shape := ⟨2, ![4, 262144]⟩
abbrev S4x4096 : Shape := ⟨2, ![4, 4096]⟩
abbrev S_ : Shape := ⟨0, ![]⟩
abbrev S4x516x516 : Shape := ⟨3, ![4, 516, 516]⟩
abbrev S4x4096x1 : Shape := ⟨3, ![4, 4096, 1]⟩
abbrev S1x25 : Shape := ⟨2, ![1, 25]⟩
abbrev S1x1x25 : Shape := ⟨3, ![1, 1, 25]⟩
abbrev S4x4096x25 : Shape := ⟨3, ![4, 4096, 25]⟩
abbrev S4x4096x25x1 : Shape := ⟨4, ![4, 4096, 25, 1]⟩
abbrev S4x4096x25x2 : Shape := ⟨4, ![4, 4096, 25, 2]⟩
abbrev S4x4096x2 : Shape := ⟨3, ![4, 4096, 2]⟩
abbrev S1x25x2 : Shape := ⟨3, ![1, 25, 2]⟩
abbrev S1x1x25x2 : Shape := ⟨4, ![1, 1, 25, 2]⟩
abbrev S4x4096x1x2 : Shape := ⟨4, ![4, 4096, 1, 2]⟩
abbrev S1x2 : Shape := ⟨2, ![1, 2]⟩
abbrev S1x1x2 : Shape := ⟨3, ![1, 1, 2]⟩
abbrev S4096 : Shape := ⟨1, ![4096]⟩
abbrev S1x1x512x512 : Shape := ⟨4, ![1, 1, 512, 512]⟩
abbrev S1x512x512 : Shape := ⟨3, ![1, 512, 512]⟩
abbrev S512x512 : Shape := ⟨2, ![512, 512]⟩
abbrev S512x2 : Shape := ⟨2, ![512, 2]⟩
abbrev S512x516 : Shape := ⟨2, ![512, 516]⟩
abbrev S2x512 : Shape := ⟨2, ![2, 512]⟩
abbrev S516x512 : Shape := ⟨2, ![516, 512]⟩

abbrev nBuf : Space → Nat
  | .hbm => 412
  | .vmem => 4
  | .smem => 0
  | _ => 0

abbrev hbmTy0_0 (i : Nat) : BufTy := match i % 128 with
  | 0 => ⟨S4x1x512x512, .f32⟩
  | 1 => ⟨S25, .i32⟩
  | 2 => ⟨S25, .i32⟩
  | 3 => ⟨S25x2, .f32⟩
  | 4 => ⟨S2, .f32⟩
  | 5 => ⟨S4x512x512, .f32⟩
  | 6 => ⟨S4x262144, .f32⟩
  | 7 => ⟨S4x4096, .f32⟩
  | 8 => ⟨S4x4096, .i32⟩
  | 9 => ⟨S4x512x512, .f32⟩
  | 10 => ⟨S_, .i32⟩
  | 11 => ⟨S_, .f32⟩
  | 12 => ⟨S4x516x516, .f32⟩
  | 13 => ⟨S4x512x512, .f32⟩
  | 14 => ⟨S_, .i32⟩
  | 15 => ⟨S_, .i32⟩
  | 16 => ⟨S4x4096, .i32⟩
  | 17 => ⟨S4x4096, .i32⟩
  | 18 => ⟨S4x4096, .i32⟩
  | 19 => ⟨S_, .i32⟩
  | 20 => ⟨S4x4096, .i32⟩
  | 21 => ⟨S4x4096, .i1⟩
  | 22 => ⟨S4x4096, .i32⟩
  | 23 => ⟨S4x4096, .i32⟩
  | 24 => ⟨S_, .i32⟩
  | 25 => ⟨S4x4096, .i32⟩
  | 26 => ⟨S4x4096, .i1⟩
  | 27 => ⟨S4x4096, .i1⟩
  | 28 => ⟨S_, .i32⟩
  | 29 => ⟨S4x4096, .i32⟩
  | 30 => ⟨S4x4096, .i32⟩
  | 31 => ⟨S4x4096, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S4x4096, .i32⟩
  | 39 => ⟨S4x4096, .i32⟩
  | 40 => ⟨S_, .i32⟩
  | 41 => ⟨S4x4096, .i32⟩
  | 42 => ⟨S4x4096, .i1⟩
  | 43 => ⟨S_, .i32⟩
  | 44 => ⟨S4x4096, .i32⟩
  | 45 => ⟨S4x4096, .i1⟩
  | 46 => ⟨S_, .i32⟩
  | 47 => ⟨S_, .i1⟩
  | 48 => ⟨S4x4096, .i1⟩
  | 49 => ⟨S4x4096, .i1⟩
  | 50 => ⟨S4x4096, .i1⟩
  | 51 => ⟨S4x4096, .i32⟩
  | 52 => ⟨S4x4096, .i32⟩
  | 53 => ⟨S4x4096, .i32⟩
  | 54 => ⟨S4x4096x1, .i32⟩
  | 55 => ⟨S1x25, .i32⟩
  | 56 => ⟨S1x1x25, .i32⟩
  | 57 => ⟨S4x4096x25, .i32⟩
  | 58 => ⟨S4x4096x25, .i32⟩
  | 59 => ⟨S4x4096x25, .i32⟩
  | 60 => ⟨S4x4096x1, .i32⟩
  | 61 => ⟨S1x25, .i32⟩
  | 62 => ⟨S1x1x25, .i32⟩
  | 63 => ⟨S4x4096x25, .i32⟩
  | 64 => ⟨S4x4096x25, .i32⟩
  | 65 => ⟨S4x4096x25, .i32⟩
  | 66 => ⟨S_, .i32⟩
  | 67 => ⟨S4x4096x25, .i32⟩
  | 68 => ⟨S4x4096x25, .i1⟩
  | 69 => ⟨S_, .i32⟩
  | 70 => ⟨S4x4096x25, .i32⟩
  | 71 => ⟨S4x4096x25, .i32⟩
  | 72 => ⟨S4x4096x25, .i32⟩
  | 73 => ⟨S_, .i32⟩
  | 74 => ⟨S4x4096x25, .i32⟩
  | 75 => ⟨S4x4096x25, .i1⟩
  | 76 => ⟨S_, .i32⟩
  | 77 => ⟨S4x4096x25, .i32⟩
  | 78 => ⟨S4x4096x25, .i32⟩
  | 79 => ⟨S4x4096x25, .i32⟩
  | 80 => ⟨S4x4096x25x1, .i32⟩
  | 81 => ⟨S4x4096x25x1, .i32⟩
  | 82 => ⟨S4x4096x25x2, .i32⟩
  | 83 => ⟨S4x4096x25, .f32⟩
  | 84 => ⟨S4x4096, .f32⟩
  | 85 => ⟨S4x4096, .f32⟩
  | 86 => ⟨S4x4096x1, .f32⟩
  | 87 => ⟨S4x4096x1, .f32⟩
  | 88 => ⟨S4x4096x2, .f32⟩
  | 89 => ⟨S_, .f32⟩
  | 90 => ⟨S4x4096, .f32⟩
  | 91 => ⟨S4x4096x1, .f32⟩
  | 92 => ⟨S4x4096x25, .f32⟩
  | 93 => ⟨S4x4096x25, .f32⟩
  | 94 => ⟨S_, .f32⟩
  | 95 => ⟨S4x4096x25, .f32⟩
  | 96 => ⟨S4x4096x25, .f32⟩
  | 97 => ⟨S4x4096x25, .f32⟩
  | 98 => ⟨S_, .f32⟩
  | 99 => ⟨S4x4096, .f32⟩
  | 100 => ⟨S4x4096x1, .f32⟩
  | 101 => ⟨S4x4096x25x1, .f32⟩
  | 102 => ⟨S1x25x2, .f32⟩
  | 103 => ⟨S1x1x25x2, .f32⟩
  | 104 => ⟨S4x4096x25x2, .f32⟩
  | 105 => ⟨S4x4096x25x2, .f32⟩
  | 106 => ⟨S4x4096x25x2, .f32⟩
  | 107 => ⟨S_, .f32⟩
  | 108 => ⟨S4x4096x2, .f32⟩
  | 109 => ⟨S4x4096x2, .f32⟩
  | 110 => ⟨S4x4096x2, .f32⟩
  | 111 => ⟨S1x25x2, .f32⟩
  | 112 => ⟨S4x4096x1x2, .f32⟩
  | 113 => ⟨S1x1x25x2, .f32⟩
  | 114 => ⟨S4x4096x25x2, .f32⟩
  | 115 => ⟨S4x4096x25x2, .f32⟩
  | 116 => ⟨S4x4096x25x2, .f32⟩
  | 117 => ⟨S_, .f32⟩
  | 118 => ⟨S4x4096x25x2, .f32⟩
  | 119 => ⟨S4x4096x25x2, .f32⟩
  | 120 => ⟨S4x4096x25x2, .f32⟩
  | 121 => ⟨S_, .f32⟩
  | 122 => ⟨S4x4096x25, .f32⟩
  | 123 => ⟨S4x4096x25, .f32⟩
  | 124 => ⟨S_, .f32⟩
  | 125 => ⟨S4x4096, .f32⟩
  | 126 => ⟨S4x4096, .f32⟩
  | 127 => ⟨S4x4096, .f32⟩
  | _ => ⟨S4x1x512x512, .f32⟩

abbrev hbmTy0_1 (i : Nat) : BufTy := match i % 128 with
  | 0 => ⟨S4x4096x2, .f32⟩
  | 1 => ⟨S1x2, .f32⟩
  | 2 => ⟨S1x1x2, .f32⟩
  | 3 => ⟨S4x4096x2, .f32⟩
  | 4 => ⟨S4x4096x2, .f32⟩
  | 5 => ⟨S_, .f32⟩
  | 6 => ⟨S4x4096x2, .f32⟩
  | 7 => ⟨S4x4096x2, .f32⟩
  | 8 => ⟨S_, .f32⟩
  | 9 => ⟨S4x4096x2, .f32⟩
  | 10 => ⟨S4x4096x2, .f32⟩
  | 11 => ⟨S4x4096x1, .f32⟩
  | 12 => ⟨S4x4096, .f32⟩
  | 13 => ⟨S_, .f32⟩
  | 14 => ⟨S4x4096, .f32⟩
  | 15 => ⟨S4x4096, .f32⟩
  | 16 => ⟨S_, .f32⟩
  | 17 => ⟨S4x4096, .f32⟩
  | 18 => ⟨S4x4096, .f32⟩
  | 19 => ⟨S_, .f32⟩
  | 20 => ⟨S4x4096, .f32⟩
  | 21 => ⟨S4x4096, .f32⟩
  | 22 => ⟨S4x4096x1, .f32⟩
  | 23 => ⟨S4x4096, .f32⟩
  | 24 => ⟨S_, .f32⟩
  | 25 => ⟨S4x4096, .f32⟩
  | 26 => ⟨S4x4096, .f32⟩
  | 27 => ⟨S_, .f32⟩
  | 28 => ⟨S4x4096, .f32⟩
  | 29 => ⟨S4x4096, .f32⟩
  | 30 => ⟨S_, .f32⟩
  | 31 => ⟨S4x4096, .f32⟩
  | 32 => ⟨S4x4096, .f32⟩
  | 33 => ⟨S4x4096, .f32⟩
  | 34 => ⟨S4x4096, .f32⟩
  | 35 => ⟨S_, .f32⟩
  | 36 => ⟨S4x4096, .f32⟩
  | 37 => ⟨S4x4096, .f32⟩
  | 38 => ⟨S_, .f32⟩
  | 39 => ⟨S4x4096, .f32⟩
  | 40 => ⟨S4x4096, .f32⟩
  | 41 => ⟨S4x4096, .f32⟩
  | 42 => ⟨S_, .f32⟩
  | 43 => ⟨S4x4096, .f32⟩
  | 44 => ⟨S4x4096, .f32⟩
  | 45 => ⟨S4x4096, .f32⟩
  | 46 => ⟨S_, .f32⟩
  | 47 => ⟨S4x4096, .f32⟩
  | 48 => ⟨S4x4096, .f32⟩
  | 49 => ⟨S_, .f32⟩
  | 50 => ⟨S4x4096, .f32⟩
  | 51 => ⟨S4x4096, .i1⟩
  | 52 => ⟨S_, .f32⟩
  | 53 => ⟨S4x4096, .f32⟩
  | 54 => ⟨S4x4096, .i1⟩
  | 55 => ⟨S4x4096, .i1⟩
  | 56 => ⟨S_, .f32⟩
  | 57 => ⟨S4x4096, .f32⟩
  | 58 => ⟨S4x4096, .i1⟩
  | 59 => ⟨S4x4096, .i1⟩
  | 60 => ⟨S_, .f32⟩
  | 61 => ⟨S4x4096, .f32⟩
  | 62 => ⟨S4x4096, .i1⟩
  | 63 => ⟨S4x4096, .i1⟩
  | 64 => ⟨S_, .i32⟩
  | 65 => ⟨S_, .i32⟩
  | 66 => ⟨S_, .f32⟩
  | 67 => ⟨S4x4096, .f32⟩
  | 68 => ⟨S4x4096, .f32⟩
  | 69 => ⟨S_, .f32⟩
  | 70 => ⟨S4x4096, .f32⟩
  | 71 => ⟨S4x4096, .f32⟩
  | 72 => ⟨S4x4096, .i32⟩
  | 73 => ⟨S_, .i32⟩
  | 74 => ⟨S_, .i32⟩
  | 75 => ⟨S_, .f32⟩
  | 76 => ⟨S4x4096, .f32⟩
  | 77 => ⟨S4x4096, .f32⟩
  | 78 => ⟨S_, .f32⟩
  | 79 => ⟨S4x4096, .f32⟩
  | 80 => ⟨S4x4096, .f32⟩
  | 81 => ⟨S4x4096, .i32⟩
  | 82 => ⟨S_, .i32⟩
  | 83 => ⟨S4x4096, .i32⟩
  | 84 => ⟨S4x4096, .i1⟩
  | 85 => ⟨S_, .i32⟩
  | 86 => ⟨S4x4096, .i32⟩
  | 87 => ⟨S4x4096, .i32⟩
  | 88 => ⟨S4x4096, .i32⟩
  | 89 => ⟨S_, .i32⟩
  | 90 => ⟨S4x4096, .i32⟩
  | 91 => ⟨S4x4096, .i1⟩
  | 92 => ⟨S_, .i32⟩
  | 93 => ⟨S4x4096, .i32⟩
  | 94 => ⟨S4x4096, .i32⟩
  | 95 => ⟨S4x4096, .i32⟩
  | 96 => ⟨S4x4096x1, .i32⟩
  | 97 => ⟨S4x4096x1, .i32⟩
  | 98 => ⟨S4x4096x2, .i32⟩
  | 99 => ⟨S4x4096, .f32⟩
  | 100 => ⟨S_, .f32⟩
  | 101 => ⟨S_, .f32⟩
  | 102 => ⟨S4096, .f32⟩
  | 103 => ⟨S4x4096, .f32⟩
  | 104 => ⟨S4x4096, .f32⟩
  | 105 => ⟨S4x4096, .f32⟩
  | 106 => ⟨S4x4096, .f32⟩
  | 107 => ⟨S_, .f32⟩
  | 108 => ⟨S4x4096, .f32⟩
  | 109 => ⟨S4x4096, .i1⟩
  | 110 => ⟨S_, .f32⟩
  | 111 => ⟨S4x4096, .f32⟩
  | 112 => ⟨S4x4096, .i1⟩
  | 113 => ⟨S4x4096, .i1⟩
  | 114 => ⟨S_, .f32⟩
  | 115 => ⟨S4x4096, .f32⟩
  | 116 => ⟨S4x4096, .i1⟩
  | 117 => ⟨S4x4096, .i1⟩
  | 118 => ⟨S_, .f32⟩
  | 119 => ⟨S4x4096, .f32⟩
  | 120 => ⟨S4x4096, .i1⟩
  | 121 => ⟨S4x4096, .i1⟩
  | 122 => ⟨S_, .i32⟩
  | 123 => ⟨S_, .i32⟩
  | 124 => ⟨S_, .f32⟩
  | 125 => ⟨S4x4096, .f32⟩
  | 126 => ⟨S4x4096, .f32⟩
  | 127 => ⟨S_, .f32⟩
  | _ => ⟨S4x1x512x512, .f32⟩

abbrev hbmTy0_2 (i : Nat) : BufTy := match i % 128 with
  | 0 => ⟨S4x4096, .f32⟩
  | 1 => ⟨S4x4096, .f32⟩
  | 2 => ⟨S4x4096, .i32⟩
  | 3 => ⟨S_, .i32⟩
  | 4 => ⟨S_, .i32⟩
  | 5 => ⟨S_, .f32⟩
  | 6 => ⟨S4x4096, .f32⟩
  | 7 => ⟨S4x4096, .f32⟩
  | 8 => ⟨S_, .f32⟩
  | 9 => ⟨S4x4096, .f32⟩
  | 10 => ⟨S4x4096, .f32⟩
  | 11 => ⟨S4x4096, .i32⟩
  | 12 => ⟨S_, .i32⟩
  | 13 => ⟨S4x4096, .i32⟩
  | 14 => ⟨S4x4096, .i1⟩
  | 15 => ⟨S_, .i32⟩
  | 16 => ⟨S4x4096, .i32⟩
  | 17 => ⟨S4x4096, .i32⟩
  | 18 => ⟨S4x4096, .i32⟩
  | 19 => ⟨S_, .i32⟩
  | 20 => ⟨S4x4096, .i32⟩
  | 21 => ⟨S4x4096, .i1⟩
  | 22 => ⟨S_, .i32⟩
  | 23 => ⟨S4x4096, .i32⟩
  | 24 => ⟨S4x4096, .i32⟩
  | 25 => ⟨S4x4096, .i32⟩
  | 26 => ⟨S4x4096x1, .i32⟩
  | 27 => ⟨S4x4096x1, .i32⟩
  | 28 => ⟨S4x4096x2, .i32⟩
  | 29 => ⟨S4x4096, .f32⟩
  | 30 => ⟨S_, .f32⟩
  | 31 => ⟨S_, .f32⟩
  | 32 => ⟨S4096, .f32⟩
  | 33 => ⟨S4x4096, .f32⟩
  | 34 => ⟨S4x4096, .f32⟩
  | 35 => ⟨S4x4096, .f32⟩
  | 36 => ⟨S4x4096, .f32⟩
  | 37 => ⟨S4x4096, .f32⟩
  | 38 => ⟨S_, .f32⟩
  | 39 => ⟨S4x4096, .f32⟩
  | 40 => ⟨S4x4096, .i1⟩
  | 41 => ⟨S_, .f32⟩
  | 42 => ⟨S4x4096, .f32⟩
  | 43 => ⟨S4x4096, .i1⟩
  | 44 => ⟨S4x4096, .i1⟩
  | 45 => ⟨S_, .f32⟩
  | 46 => ⟨S4x4096, .f32⟩
  | 47 => ⟨S4x4096, .i1⟩
  | 48 => ⟨S4x4096, .i1⟩
  | 49 => ⟨S_, .f32⟩
  | 50 => ⟨S4x4096, .f32⟩
  | 51 => ⟨S4x4096, .i1⟩
  | 52 => ⟨S4x4096, .i1⟩
  | 53 => ⟨S_, .i32⟩
  | 54 => ⟨S_, .i32⟩
  | 55 => ⟨S_, .f32⟩
  | 56 => ⟨S4x4096, .f32⟩
  | 57 => ⟨S4x4096, .f32⟩
  | 58 => ⟨S_, .f32⟩
  | 59 => ⟨S4x4096, .f32⟩
  | 60 => ⟨S4x4096, .f32⟩
  | 61 => ⟨S4x4096, .i32⟩
  | 62 => ⟨S_, .i32⟩
  | 63 => ⟨S_, .i32⟩
  | 64 => ⟨S_, .f32⟩
  | 65 => ⟨S4x4096, .f32⟩
  | 66 => ⟨S4x4096, .f32⟩
  | 67 => ⟨S_, .f32⟩
  | 68 => ⟨S4x4096, .f32⟩
  | 69 => ⟨S4x4096, .f32⟩
  | 70 => ⟨S4x4096, .i32⟩
  | 71 => ⟨S_, .i32⟩
  | 72 => ⟨S4x4096, .i32⟩
  | 73 => ⟨S4x4096, .i1⟩
  | 74 => ⟨S_, .i32⟩
  | 75 => ⟨S4x4096, .i32⟩
  | 76 => ⟨S4x4096, .i32⟩
  | 77 => ⟨S4x4096, .i32⟩
  | 78 => ⟨S_, .i32⟩
  | 79 => ⟨S4x4096, .i32⟩
  | 80 => ⟨S4x4096, .i1⟩
  | 81 => ⟨S_, .i32⟩
  | 82 => ⟨S4x4096, .i32⟩
  | 83 => ⟨S4x4096, .i32⟩
  | 84 => ⟨S4x4096, .i32⟩
  | 85 => ⟨S4x4096x1, .i32⟩
  | 86 => ⟨S4x4096x1, .i32⟩
  | 87 => ⟨S4x4096x2, .i32⟩
  | 88 => ⟨S4x4096, .f32⟩
  | 89 => ⟨S_, .f32⟩
  | 90 => ⟨S_, .f32⟩
  | 91 => ⟨S4096, .f32⟩
  | 92 => ⟨S4x4096, .f32⟩
  | 93 => ⟨S4x4096, .f32⟩
  | 94 => ⟨S4x4096, .f32⟩
  | 95 => ⟨S4x4096, .f32⟩
  | 96 => ⟨S4x4096, .f32⟩
  | 97 => ⟨S_, .f32⟩
  | 98 => ⟨S4x4096, .f32⟩
  | 99 => ⟨S4x4096, .i1⟩
  | 100 => ⟨S_, .f32⟩
  | 101 => ⟨S4x4096, .f32⟩
  | 102 => ⟨S4x4096, .i1⟩
  | 103 => ⟨S4x4096, .i1⟩
  | 104 => ⟨S_, .f32⟩
  | 105 => ⟨S4x4096, .f32⟩
  | 106 => ⟨S4x4096, .i1⟩
  | 107 => ⟨S4x4096, .i1⟩
  | 108 => ⟨S_, .f32⟩
  | 109 => ⟨S4x4096, .f32⟩
  | 110 => ⟨S4x4096, .i1⟩
  | 111 => ⟨S4x4096, .i1⟩
  | 112 => ⟨S_, .i32⟩
  | 113 => ⟨S_, .i32⟩
  | 114 => ⟨S_, .f32⟩
  | 115 => ⟨S4x4096, .f32⟩
  | 116 => ⟨S4x4096, .f32⟩
  | 117 => ⟨S_, .f32⟩
  | 118 => ⟨S4x4096, .f32⟩
  | 119 => ⟨S4x4096, .f32⟩
  | 120 => ⟨S4x4096, .i32⟩
  | 121 => ⟨S_, .i32⟩
  | 122 => ⟨S_, .i32⟩
  | 123 => ⟨S_, .f32⟩
  | 124 => ⟨S4x4096, .f32⟩
  | 125 => ⟨S4x4096, .f32⟩
  | 126 => ⟨S_, .f32⟩
  | 127 => ⟨S4x4096, .f32⟩
  | _ => ⟨S4x1x512x512, .f32⟩

abbrev hbmTy0_3 (i : Nat) : BufTy := match i % 128 with
  | 0 => ⟨S4x4096, .f32⟩
  | 1 => ⟨S4x4096, .i32⟩
  | 2 => ⟨S_, .i32⟩
  | 3 => ⟨S4x4096, .i32⟩
  | 4 => ⟨S4x4096, .i1⟩
  | 5 => ⟨S_, .i32⟩
  | 6 => ⟨S4x4096, .i32⟩
  | 7 => ⟨S4x4096, .i32⟩
  | 8 => ⟨S4x4096, .i32⟩
  | 9 => ⟨S_, .i32⟩
  | 10 => ⟨S4x4096, .i32⟩
  | 11 => ⟨S4x4096, .i1⟩
  | 12 => ⟨S_, .i32⟩
  | 13 => ⟨S4x4096, .i32⟩
  | 14 => ⟨S4x4096, .i32⟩
  | 15 => ⟨S4x4096, .i32⟩
  | 16 => ⟨S4x4096x1, .i32⟩
  | 17 => ⟨S4x4096x1, .i32⟩
  | 18 => ⟨S4x4096x2, .i32⟩
  | 19 => ⟨S4x4096, .f32⟩
  | 20 => ⟨S_, .f32⟩
  | 21 => ⟨S_, .f32⟩
  | 22 => ⟨S4096, .f32⟩
  | 23 => ⟨S4x4096, .f32⟩
  | 24 => ⟨S4x4096, .f32⟩
  | 25 => ⟨S4x4096, .f32⟩
  | 26 => ⟨S4x4096, .f32⟩
  | 27 => ⟨S4x4096, .f32⟩
  | _ => ⟨S4x1x512x512, .f32⟩

abbrev hbmTy (i : Nat) : BufTy := match i / 128 with
  | 0 => hbmTy0_0 i
  | 1 => hbmTy0_1 i
  | 2 => hbmTy0_2 i
  | 3 => hbmTy0_3 i
  | _ => ⟨S4x1x512x512, .f32⟩

abbrev bufTy : (tb : Table) → Fin (tcTables nBuf tb) → BufTy
  | .hbm, ⟨i, _⟩ => hbmTy i
  | .local _ .vmem, ⟨0, _⟩ => ⟨S1x1x512x512, .f32⟩
  | .local _ .vmem, ⟨1, _⟩ => ⟨S1x1x512x512, .f32⟩
  | .local _ .vmem, ⟨2, _⟩ => ⟨S1x512x512, .f32⟩
  | .local _ .vmem, ⟨3, _⟩ => ⟨S1x512x512, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_c_0 : Ref sig .tc := ⟨.hbm, 2, rfl⟩
abbrev main_call0_cst : Ref sig .tc := ⟨.hbm, 3, rfl⟩
abbrev main_call0_cst_1 : Ref sig .tc := ⟨.hbm, 4, rfl⟩
abbrev main_call0_v0 : Ref sig .tc := ⟨.hbm, 5, rfl⟩
abbrev main_call0_v1 : Ref sig .tc := ⟨.hbm, 6, rfl⟩
abbrev main_call0_values : Ref sig .tc := ⟨.hbm, 7, rfl⟩
abbrev main_call0_indices : Ref sig .tc := ⟨.hbm, 8, rfl⟩
abbrev main_call0_v2 : Ref sig .tc := ⟨.hbm, 9, rfl⟩
abbrev main_call0_c_2 : Ref sig .tc := ⟨.hbm, 10, rfl⟩
abbrev main_call0_call1_v0 : Ref sig .tc := ⟨.hbm, 11, rfl⟩
abbrev main_call0_v3 : Ref sig .tc := ⟨.hbm, 12, rfl⟩
abbrev main_call0_v4 : Ref sig .tc := ⟨.hbm, 13, rfl⟩
abbrev main_call0_c_3 : Ref sig .tc := ⟨.hbm, 14, rfl⟩
abbrev main_call0_call2_v0 : Ref sig .tc := ⟨.hbm, 15, rfl⟩
abbrev main_call0_call2_v1 : Ref sig .tc := ⟨.hbm, 16, rfl⟩
abbrev main_call0_call2_v2 : Ref sig .tc := ⟨.hbm, 17, rfl⟩
abbrev main_call0_call2_v3 : Ref sig .tc := ⟨.hbm, 18, rfl⟩
abbrev main_call0_call2_v4 : Ref sig .tc := ⟨.hbm, 19, rfl⟩
abbrev main_call0_call2_v5 : Ref sig .tc := ⟨.hbm, 20, rfl⟩
abbrev main_call0_call2_v6 : Ref sig .tc := ⟨.hbm, 21, rfl⟩
abbrev main_call0_call2_v7 : Ref sig .tc := ⟨.hbm, 22, rfl⟩
abbrev main_call0_call2_v8 : Ref sig .tc := ⟨.hbm, 23, rfl⟩
abbrev main_call0_call2_c : Ref sig .tc := ⟨.hbm, 24, rfl⟩
abbrev main_call0_call2_v9 : Ref sig .tc := ⟨.hbm, 25, rfl⟩
abbrev main_call0_call2_v10 : Ref sig .tc := ⟨.hbm, 26, rfl⟩
abbrev main_call0_call2_v11 : Ref sig .tc := ⟨.hbm, 27, rfl⟩
abbrev main_call0_call2_c_0 : Ref sig .tc := ⟨.hbm, 28, rfl⟩
abbrev main_call0_call2_v12 : Ref sig .tc := ⟨.hbm, 29, rfl⟩
abbrev main_call0_call2_v13 : Ref sig .tc := ⟨.hbm, 30, rfl⟩
abbrev main_call0_v5 : Ref sig .tc := ⟨.hbm, 31, rfl⟩
abbrev main_call0_c_4 : Ref sig .tc := ⟨.hbm, 32, rfl⟩
abbrev main_call0_call3_v0 : Ref sig .tc := ⟨.hbm, 33, rfl⟩
abbrev main_call0_call3_c : Ref sig .tc := ⟨.hbm, 34, rfl⟩
abbrev main_call0_call3_v1 : Ref sig .tc := ⟨.hbm, 35, rfl⟩
abbrev main_call0_call3_c_0 : Ref sig .tc := ⟨.hbm, 36, rfl⟩
abbrev main_call0_call3_v2 : Ref sig .tc := ⟨.hbm, 37, rfl⟩
abbrev main_call0_call3_v3 : Ref sig .tc := ⟨.hbm, 38, rfl⟩
abbrev main_call0_call3_v4 : Ref sig .tc := ⟨.hbm, 39, rfl⟩
abbrev main_call0_call3_c_1 : Ref sig .tc := ⟨.hbm, 40, rfl⟩
abbrev main_call0_call3_v5 : Ref sig .tc := ⟨.hbm, 41, rfl⟩
abbrev main_call0_call3_v6 : Ref sig .tc := ⟨.hbm, 42, rfl⟩
abbrev main_call0_call3_c_2 : Ref sig .tc := ⟨.hbm, 43, rfl⟩
abbrev main_call0_call3_v7 : Ref sig .tc := ⟨.hbm, 44, rfl⟩
abbrev main_call0_call3_v8 : Ref sig .tc := ⟨.hbm, 45, rfl⟩
abbrev main_call0_call3_c_3 : Ref sig .tc := ⟨.hbm, 46, rfl⟩
abbrev main_call0_call3_v9 : Ref sig .tc := ⟨.hbm, 47, rfl⟩
abbrev main_call0_call3_v10 : Ref sig .tc := ⟨.hbm, 48, rfl⟩
abbrev main_call0_call3_v11 : Ref sig .tc := ⟨.hbm, 49, rfl⟩
abbrev main_call0_call3_v12 : Ref sig .tc := ⟨.hbm, 50, rfl⟩
abbrev main_call0_call3_v13 : Ref sig .tc := ⟨.hbm, 51, rfl⟩
abbrev main_call0_call3_v14 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_v15 : Ref sig .tc := ⟨.hbm, 62, rfl⟩
abbrev main_call0_v16 : Ref sig .tc := ⟨.hbm, 63, rfl⟩
abbrev main_call0_v17 : Ref sig .tc := ⟨.hbm, 64, rfl⟩
abbrev main_call0_v18 : Ref sig .tc := ⟨.hbm, 65, rfl⟩
abbrev main_call0_c_5 : Ref sig .tc := ⟨.hbm, 66, rfl⟩
abbrev main_call0_v19 : Ref sig .tc := ⟨.hbm, 67, rfl⟩
abbrev main_call0_v20 : Ref sig .tc := ⟨.hbm, 68, rfl⟩
abbrev main_call0_c_6 : Ref sig .tc := ⟨.hbm, 69, rfl⟩
abbrev main_call0_v21 : Ref sig .tc := ⟨.hbm, 70, rfl⟩
abbrev main_call0_v22 : Ref sig .tc := ⟨.hbm, 71, rfl⟩
abbrev main_call0_v23 : Ref sig .tc := ⟨.hbm, 72, rfl⟩
abbrev main_call0_c_7 : Ref sig .tc := ⟨.hbm, 73, rfl⟩
abbrev main_call0_v24 : Ref sig .tc := ⟨.hbm, 74, rfl⟩
abbrev main_call0_v25 : Ref sig .tc := ⟨.hbm, 75, rfl⟩
abbrev main_call0_c_8 : Ref sig .tc := ⟨.hbm, 76, rfl⟩
abbrev main_call0_v26 : Ref sig .tc := ⟨.hbm, 77, rfl⟩
abbrev main_call0_v27 : Ref sig .tc := ⟨.hbm, 78, rfl⟩
abbrev main_call0_v28 : Ref sig .tc := ⟨.hbm, 79, rfl⟩
abbrev main_call0_v29 : Ref sig .tc := ⟨.hbm, 80, rfl⟩
abbrev main_call0_v30 : Ref sig .tc := ⟨.hbm, 81, rfl⟩
abbrev main_call0_v31 : Ref sig .tc := ⟨.hbm, 82, rfl⟩
abbrev main_call0_v32 : Ref sig .tc := ⟨.hbm, 83, rfl⟩
abbrev main_call0_v33 : Ref sig .tc := ⟨.hbm, 84, rfl⟩
abbrev main_call0_v34 : Ref sig .tc := ⟨.hbm, 85, rfl⟩
abbrev main_call0_v35 : Ref sig .tc := ⟨.hbm, 86, rfl⟩
abbrev main_call0_v36 : Ref sig .tc := ⟨.hbm, 87, rfl⟩
abbrev main_call0_v37 : Ref sig .tc := ⟨.hbm, 88, rfl⟩
abbrev main_call0_cst_9 : Ref sig .tc := ⟨.hbm, 89, rfl⟩
abbrev main_call0_v38 : Ref sig .tc := ⟨.hbm, 90, rfl⟩
abbrev main_call0_v39 : Ref sig .tc := ⟨.hbm, 91, rfl⟩
abbrev main_call0_v40 : Ref sig .tc := ⟨.hbm, 92, rfl⟩
abbrev main_call0_v41 : Ref sig .tc := ⟨.hbm, 93, rfl⟩
abbrev main_call0_cst_10 : Ref sig .tc := ⟨.hbm, 94, rfl⟩
abbrev main_call0_v42 : Ref sig .tc := ⟨.hbm, 95, rfl⟩
abbrev main_call0_v43 : Ref sig .tc := ⟨.hbm, 96, rfl⟩
abbrev main_call0_v44 : Ref sig .tc := ⟨.hbm, 97, rfl⟩
abbrev main_call0_cst_11 : Ref sig .tc := ⟨.hbm, 98, rfl⟩
abbrev main_call0_v45 : Ref sig .tc := ⟨.hbm, 99, rfl⟩
abbrev main_call0_v46 : Ref sig .tc := ⟨.hbm, 100, rfl⟩
abbrev main_call0_v47 : Ref sig .tc := ⟨.hbm, 101, rfl⟩
abbrev main_call0_v48 : Ref sig .tc := ⟨.hbm, 102, rfl⟩
abbrev main_call0_v49 : Ref sig .tc := ⟨.hbm, 103, rfl⟩
abbrev main_call0_v50 : Ref sig .tc := ⟨.hbm, 104, rfl⟩
abbrev main_call0_v51 : Ref sig .tc := ⟨.hbm, 105, rfl⟩
abbrev main_call0_v52 : Ref sig .tc := ⟨.hbm, 106, rfl⟩
abbrev main_call0_cst_12 : Ref sig .tc := ⟨.hbm, 107, rfl⟩
abbrev main_call0_v53 : Ref sig .tc := ⟨.hbm, 108, rfl⟩
abbrev main_call0_v54 : Ref sig .tc := ⟨.hbm, 109, rfl⟩
abbrev main_call0_v55 : Ref sig .tc := ⟨.hbm, 110, rfl⟩
abbrev main_call0_v56 : Ref sig .tc := ⟨.hbm, 111, rfl⟩
abbrev main_call0_v57 : Ref sig .tc := ⟨.hbm, 112, rfl⟩
abbrev main_call0_v58 : Ref sig .tc := ⟨.hbm, 113, rfl⟩
abbrev main_call0_v59 : Ref sig .tc := ⟨.hbm, 114, rfl⟩
abbrev main_call0_v60 : Ref sig .tc := ⟨.hbm, 115, rfl⟩
abbrev main_call0_v61 : Ref sig .tc := ⟨.hbm, 116, rfl⟩
abbrev main_call0_cst_13 : Ref sig .tc := ⟨.hbm, 117, rfl⟩
abbrev main_call0_v62 : Ref sig .tc := ⟨.hbm, 118, rfl⟩
abbrev main_call0_v63 : Ref sig .tc := ⟨.hbm, 119, rfl⟩
abbrev main_call0_v64 : Ref sig .tc := ⟨.hbm, 120, rfl⟩
abbrev main_call0_cst_14 : Ref sig .tc := ⟨.hbm, 121, rfl⟩
abbrev main_call0_v65 : Ref sig .tc := ⟨.hbm, 122, rfl⟩
abbrev main_call0_v66 : Ref sig .tc := ⟨.hbm, 123, rfl⟩
abbrev main_call0_cst_15 : Ref sig .tc := ⟨.hbm, 124, rfl⟩
abbrev main_call0_v67 : Ref sig .tc := ⟨.hbm, 125, rfl⟩
abbrev main_call0_v68 : Ref sig .tc := ⟨.hbm, 126, rfl⟩
abbrev main_v0_1 : Ref sig .tc := ⟨.hbm, 127, rfl⟩
abbrev main_call0_v70 : Ref sig .tc := ⟨.hbm, 128, rfl⟩
abbrev main_call0_v71 : Ref sig .tc := ⟨.hbm, 129, rfl⟩
abbrev main_call0_v72 : Ref sig .tc := ⟨.hbm, 130, rfl⟩
abbrev main_call0_v73 : Ref sig .tc := ⟨.hbm, 131, rfl⟩
abbrev main_call0_v74 : Ref sig .tc := ⟨.hbm, 132, rfl⟩
abbrev main_call0_cst_16 : Ref sig .tc := ⟨.hbm, 133, rfl⟩
abbrev main_call0_v75 : Ref sig .tc := ⟨.hbm, 134, rfl⟩
abbrev main_call0_v76 : Ref sig .tc := ⟨.hbm, 135, rfl⟩
abbrev main_call0_cst_17 : Ref sig .tc := ⟨.hbm, 136, rfl⟩
abbrev main_call0_v77 : Ref sig .tc := ⟨.hbm, 137, rfl⟩
abbrev main_v0_0 : Ref sig .tc := ⟨.hbm, 138, rfl⟩
abbrev main_call0_v79 : Ref sig .tc := ⟨.hbm, 139, rfl⟩
abbrev main_call0_v80 : Ref sig .tc := ⟨.hbm, 140, rfl⟩
abbrev main_call0_cst_18 : Ref sig .tc := ⟨.hbm, 141, rfl⟩
abbrev main_call0_v81 : Ref sig .tc := ⟨.hbm, 142, rfl⟩
abbrev main_call0_v82 : Ref sig .tc := ⟨.hbm, 143, rfl⟩
abbrev main_call0_cst_19 : Ref sig .tc := ⟨.hbm, 144, rfl⟩
abbrev main_call0_v83 : Ref sig .tc := ⟨.hbm, 145, rfl⟩
abbrev main_call0_v84 : Ref sig .tc := ⟨.hbm, 146, rfl⟩
abbrev main_call0_cst_20 : Ref sig .tc := ⟨.hbm, 147, rfl⟩
abbrev main_call0_v85 : Ref sig .tc := ⟨.hbm, 148, rfl⟩
abbrev main_call0_v86 : Ref sig .tc := ⟨.hbm, 149, rfl⟩
abbrev main_call0_v87 : Ref sig .tc := ⟨.hbm, 150, rfl⟩
abbrev main_call0_v88 : Ref sig .tc := ⟨.hbm, 151, rfl⟩
abbrev main_call0_cst_21 : Ref sig .tc := ⟨.hbm, 152, rfl⟩
abbrev main_call0_v89 : Ref sig .tc := ⟨.hbm, 153, rfl⟩
abbrev main_call0_v90 : Ref sig .tc := ⟨.hbm, 154, rfl⟩
abbrev main_call0_cst_22 : Ref sig .tc := ⟨.hbm, 155, rfl⟩
abbrev main_call0_v91 : Ref sig .tc := ⟨.hbm, 156, rfl⟩
abbrev main_call0_v92 : Ref sig .tc := ⟨.hbm, 157, rfl⟩
abbrev main_call0_cst_23 : Ref sig .tc := ⟨.hbm, 158, rfl⟩
abbrev main_call0_v93 : Ref sig .tc := ⟨.hbm, 159, rfl⟩
abbrev main_call0_v94 : Ref sig .tc := ⟨.hbm, 160, rfl⟩
abbrev main_call0_v95 : Ref sig .tc := ⟨.hbm, 161, rfl⟩
abbrev main_call0_v96 : Ref sig .tc := ⟨.hbm, 162, rfl⟩
abbrev main_call0_cst_24 : Ref sig .tc := ⟨.hbm, 163, rfl⟩
abbrev main_call0_v97 : Ref sig .tc := ⟨.hbm, 164, rfl⟩
abbrev main_call0_v98 : Ref sig .tc := ⟨.hbm, 165, rfl⟩
abbrev main_call0_cst_25 : Ref sig .tc := ⟨.hbm, 166, rfl⟩
abbrev main_call0_v99 : Ref sig .tc := ⟨.hbm, 167, rfl⟩
abbrev main_call0_v100 : Ref sig .tc := ⟨.hbm, 168, rfl⟩
abbrev main_call0_v101 : Ref sig .tc := ⟨.hbm, 169, rfl⟩
abbrev main_call0_cst_26 : Ref sig .tc := ⟨.hbm, 170, rfl⟩
abbrev main_call0_v102 : Ref sig .tc := ⟨.hbm, 171, rfl⟩
abbrev main_call0_v103 : Ref sig .tc := ⟨.hbm, 172, rfl⟩
abbrev main_call0_v104 : Ref sig .tc := ⟨.hbm, 173, rfl⟩
abbrev main_call0_cst_27 : Ref sig .tc := ⟨.hbm, 174, rfl⟩
abbrev main_call0_v105 : Ref sig .tc := ⟨.hbm, 175, rfl⟩
abbrev main_call0_v106 : Ref sig .tc := ⟨.hbm, 176, rfl⟩
abbrev main_call0_cst_28 : Ref sig .tc := ⟨.hbm, 177, rfl⟩
abbrev main_call0_v107 : Ref sig .tc := ⟨.hbm, 178, rfl⟩
abbrev main_call0_v108 : Ref sig .tc := ⟨.hbm, 179, rfl⟩
abbrev main_call0_cst_29 : Ref sig .tc := ⟨.hbm, 180, rfl⟩
abbrev main_call0_v109 : Ref sig .tc := ⟨.hbm, 181, rfl⟩
abbrev main_call0_v110 : Ref sig .tc := ⟨.hbm, 182, rfl⟩
abbrev main_call0_v111 : Ref sig .tc := ⟨.hbm, 183, rfl⟩
abbrev main_call0_cst_30 : Ref sig .tc := ⟨.hbm, 184, rfl⟩
abbrev main_call0_v112 : Ref sig .tc := ⟨.hbm, 185, rfl⟩
abbrev main_call0_v113 : Ref sig .tc := ⟨.hbm, 186, rfl⟩
abbrev main_call0_v114 : Ref sig .tc := ⟨.hbm, 187, rfl⟩
abbrev main_call0_cst_31 : Ref sig .tc := ⟨.hbm, 188, rfl⟩
abbrev main_call0_v115 : Ref sig .tc := ⟨.hbm, 189, rfl⟩
abbrev main_call0_v116 : Ref sig .tc := ⟨.hbm, 190, rfl⟩
abbrev main_call0_v117 : Ref sig .tc := ⟨.hbm, 191, rfl⟩
abbrev main_call0_c_32 : Ref sig .tc := ⟨.hbm, 192, rfl⟩
abbrev main_call0_c_33 : Ref sig .tc := ⟨.hbm, 193, rfl⟩
abbrev main_call0_call4_v0 : Ref sig .tc := ⟨.hbm, 194, rfl⟩
abbrev main_call0_call4_v1 : Ref sig .tc := ⟨.hbm, 195, rfl⟩
abbrev main_call0_call4_v2 : Ref sig .tc := ⟨.hbm, 196, rfl⟩
abbrev main_call0_call4_v3 : Ref sig .tc := ⟨.hbm, 197, rfl⟩
abbrev main_call0_call4_v4 : Ref sig .tc := ⟨.hbm, 198, rfl⟩
abbrev main_call0_v118 : Ref sig .tc := ⟨.hbm, 199, rfl⟩
abbrev main_call0_v119 : Ref sig .tc := ⟨.hbm, 200, rfl⟩
abbrev main_call0_c_34 : Ref sig .tc := ⟨.hbm, 201, rfl⟩
abbrev main_call0_c_35 : Ref sig .tc := ⟨.hbm, 202, rfl⟩
abbrev main_call0_call5_v0 : Ref sig .tc := ⟨.hbm, 203, rfl⟩
abbrev main_call0_call5_v1 : Ref sig .tc := ⟨.hbm, 204, rfl⟩
abbrev main_call0_call5_v2 : Ref sig .tc := ⟨.hbm, 205, rfl⟩
abbrev main_call0_call5_v3 : Ref sig .tc := ⟨.hbm, 206, rfl⟩
abbrev main_call0_call5_v4 : Ref sig .tc := ⟨.hbm, 207, rfl⟩
abbrev main_call0_v120 : Ref sig .tc := ⟨.hbm, 208, rfl⟩
abbrev main_call0_v121 : Ref sig .tc := ⟨.hbm, 209, rfl⟩
abbrev main_call0_c_36 : Ref sig .tc := ⟨.hbm, 210, rfl⟩
abbrev main_call0_v122 : Ref sig .tc := ⟨.hbm, 211, rfl⟩
abbrev main_call0_v123 : Ref sig .tc := ⟨.hbm, 212, rfl⟩
abbrev main_call0_c_37 : Ref sig .tc := ⟨.hbm, 213, rfl⟩
abbrev main_call0_v124 : Ref sig .tc := ⟨.hbm, 214, rfl⟩
abbrev main_call0_v125 : Ref sig .tc := ⟨.hbm, 215, rfl⟩
abbrev main_call0_v126 : Ref sig .tc := ⟨.hbm, 216, rfl⟩
abbrev main_call0_c_38 : Ref sig .tc := ⟨.hbm, 217, rfl⟩
abbrev main_call0_v127 : Ref sig .tc := ⟨.hbm, 218, rfl⟩
abbrev main_call0_v128 : Ref sig .tc := ⟨.hbm, 219, rfl⟩
abbrev main_call0_c_39 : Ref sig .tc := ⟨.hbm, 220, rfl⟩
abbrev main_call0_v129 : Ref sig .tc := ⟨.hbm, 221, rfl⟩
abbrev main_call0_v130 : Ref sig .tc := ⟨.hbm, 222, rfl⟩
abbrev main_call0_v131 : Ref sig .tc := ⟨.hbm, 223, rfl⟩
abbrev main_call0_v132 : Ref sig .tc := ⟨.hbm, 224, rfl⟩
abbrev main_call0_v133 : Ref sig .tc := ⟨.hbm, 225, rfl⟩
abbrev main_call0_v134 : Ref sig .tc := ⟨.hbm, 226, rfl⟩
abbrev main_call0_v135 : Ref sig .tc := ⟨.hbm, 227, rfl⟩
abbrev main_call0_cst_40 : Ref sig .tc := ⟨.hbm, 228, rfl⟩
abbrev main_call0_call6_v0 : Ref sig .tc := ⟨.hbm, 229, rfl⟩
abbrev main_call0_call6_v1 : Ref sig .tc := ⟨.hbm, 230, rfl⟩
abbrev main_call0_call6_v2 : Ref sig .tc := ⟨.hbm, 231, rfl⟩
abbrev main_call0_v136 : Ref sig .tc := ⟨.hbm, 232, rfl⟩
abbrev main_call0_v137 : Ref sig .tc := ⟨.hbm, 233, rfl⟩
abbrev main_call0_v138 : Ref sig .tc := ⟨.hbm, 234, rfl⟩
abbrev main_call0_cst_41 : Ref sig .tc := ⟨.hbm, 235, rfl⟩
abbrev main_call0_v139 : Ref sig .tc := ⟨.hbm, 236, rfl⟩
abbrev main_call0_v140 : Ref sig .tc := ⟨.hbm, 237, rfl⟩
abbrev main_call0_cst_42 : Ref sig .tc := ⟨.hbm, 238, rfl⟩
abbrev main_call0_v141 : Ref sig .tc := ⟨.hbm, 239, rfl⟩
abbrev main_call0_v142 : Ref sig .tc := ⟨.hbm, 240, rfl⟩
abbrev main_call0_v143 : Ref sig .tc := ⟨.hbm, 241, rfl⟩
abbrev main_call0_cst_43 : Ref sig .tc := ⟨.hbm, 242, rfl⟩
abbrev main_call0_v144 : Ref sig .tc := ⟨.hbm, 243, rfl⟩
abbrev main_call0_v145 : Ref sig .tc := ⟨.hbm, 244, rfl⟩
abbrev main_call0_v146 : Ref sig .tc := ⟨.hbm, 245, rfl⟩
abbrev main_call0_cst_44 : Ref sig .tc := ⟨.hbm, 246, rfl⟩
abbrev main_call0_v147 : Ref sig .tc := ⟨.hbm, 247, rfl⟩
abbrev main_call0_v148 : Ref sig .tc := ⟨.hbm, 248, rfl⟩
abbrev main_call0_v149 : Ref sig .tc := ⟨.hbm, 249, rfl⟩
abbrev main_call0_c_45 : Ref sig .tc := ⟨.hbm, 250, rfl⟩
abbrev main_call0_c_46 : Ref sig .tc := ⟨.hbm, 251, rfl⟩
abbrev main_call0_call7_v0 : Ref sig .tc := ⟨.hbm, 252, rfl⟩
abbrev main_call0_call7_v1 : Ref sig .tc := ⟨.hbm, 253, rfl⟩
abbrev main_call0_call7_v2 : Ref sig .tc := ⟨.hbm, 254, rfl⟩
abbrev main_call0_call7_v3 : Ref sig .tc := ⟨.hbm, 255, rfl⟩
abbrev main_call0_call7_v4 : Ref sig .tc := ⟨.hbm, 256, rfl⟩
abbrev main_call0_v150 : Ref sig .tc := ⟨.hbm, 257, rfl⟩
abbrev main_call0_v151 : Ref sig .tc := ⟨.hbm, 258, rfl⟩
abbrev main_call0_c_47 : Ref sig .tc := ⟨.hbm, 259, rfl⟩
abbrev main_call0_c_48 : Ref sig .tc := ⟨.hbm, 260, rfl⟩
abbrev main_call0_call8_v0 : Ref sig .tc := ⟨.hbm, 261, rfl⟩
abbrev main_call0_call8_v1 : Ref sig .tc := ⟨.hbm, 262, rfl⟩
abbrev main_call0_call8_v2 : Ref sig .tc := ⟨.hbm, 263, rfl⟩
abbrev main_call0_call8_v3 : Ref sig .tc := ⟨.hbm, 264, rfl⟩
abbrev main_call0_call8_v4 : Ref sig .tc := ⟨.hbm, 265, rfl⟩
abbrev main_call0_v152 : Ref sig .tc := ⟨.hbm, 266, rfl⟩
abbrev main_call0_v153 : Ref sig .tc := ⟨.hbm, 267, rfl⟩
abbrev main_call0_c_49 : Ref sig .tc := ⟨.hbm, 268, rfl⟩
abbrev main_call0_v154 : Ref sig .tc := ⟨.hbm, 269, rfl⟩
abbrev main_call0_v155 : Ref sig .tc := ⟨.hbm, 270, rfl⟩
abbrev main_call0_c_50 : Ref sig .tc := ⟨.hbm, 271, rfl⟩
abbrev main_call0_v156 : Ref sig .tc := ⟨.hbm, 272, rfl⟩
abbrev main_call0_v157 : Ref sig .tc := ⟨.hbm, 273, rfl⟩
abbrev main_call0_v158 : Ref sig .tc := ⟨.hbm, 274, rfl⟩
abbrev main_call0_c_51 : Ref sig .tc := ⟨.hbm, 275, rfl⟩
abbrev main_call0_v159 : Ref sig .tc := ⟨.hbm, 276, rfl⟩
abbrev main_call0_v160 : Ref sig .tc := ⟨.hbm, 277, rfl⟩
abbrev main_call0_c_52 : Ref sig .tc := ⟨.hbm, 278, rfl⟩
abbrev main_call0_v161 : Ref sig .tc := ⟨.hbm, 279, rfl⟩
abbrev main_call0_v162 : Ref sig .tc := ⟨.hbm, 280, rfl⟩
abbrev main_call0_v163 : Ref sig .tc := ⟨.hbm, 281, rfl⟩
abbrev main_call0_v164 : Ref sig .tc := ⟨.hbm, 282, rfl⟩
abbrev main_call0_v165 : Ref sig .tc := ⟨.hbm, 283, rfl⟩
abbrev main_call0_v166 : Ref sig .tc := ⟨.hbm, 284, rfl⟩
abbrev main_call0_v167 : Ref sig .tc := ⟨.hbm, 285, rfl⟩
abbrev main_call0_cst_53 : Ref sig .tc := ⟨.hbm, 286, rfl⟩
abbrev main_call0_call9_v0 : Ref sig .tc := ⟨.hbm, 287, rfl⟩
abbrev main_call0_call9_v1 : Ref sig .tc := ⟨.hbm, 288, rfl⟩
abbrev main_call0_call9_v2 : Ref sig .tc := ⟨.hbm, 289, rfl⟩
abbrev main_call0_v168 : Ref sig .tc := ⟨.hbm, 290, rfl⟩
abbrev main_call0_v169 : Ref sig .tc := ⟨.hbm, 291, rfl⟩
abbrev main_call0_v170 : Ref sig .tc := ⟨.hbm, 292, rfl⟩
abbrev main_call0_v171 : Ref sig .tc := ⟨.hbm, 293, rfl⟩
abbrev main_call0_cst_54 : Ref sig .tc := ⟨.hbm, 294, rfl⟩
abbrev main_call0_v172 : Ref sig .tc := ⟨.hbm, 295, rfl⟩
abbrev main_call0_v173 : Ref sig .tc := ⟨.hbm, 296, rfl⟩
abbrev main_call0_cst_55 : Ref sig .tc := ⟨.hbm, 297, rfl⟩
abbrev main_call0_v174 : Ref sig .tc := ⟨.hbm, 298, rfl⟩
abbrev main_call0_v175 : Ref sig .tc := ⟨.hbm, 299, rfl⟩
abbrev main_call0_v176 : Ref sig .tc := ⟨.hbm, 300, rfl⟩
abbrev main_call0_cst_56 : Ref sig .tc := ⟨.hbm, 301, rfl⟩
abbrev main_call0_v177 : Ref sig .tc := ⟨.hbm, 302, rfl⟩
abbrev main_call0_v178 : Ref sig .tc := ⟨.hbm, 303, rfl⟩
abbrev main_call0_v179 : Ref sig .tc := ⟨.hbm, 304, rfl⟩
abbrev main_call0_cst_57 : Ref sig .tc := ⟨.hbm, 305, rfl⟩
abbrev main_call0_v180 : Ref sig .tc := ⟨.hbm, 306, rfl⟩
abbrev main_call0_v181 : Ref sig .tc := ⟨.hbm, 307, rfl⟩
abbrev main_call0_v182 : Ref sig .tc := ⟨.hbm, 308, rfl⟩
abbrev main_call0_c_58 : Ref sig .tc := ⟨.hbm, 309, rfl⟩
abbrev main_call0_c_59 : Ref sig .tc := ⟨.hbm, 310, rfl⟩
abbrev main_call0_call10_v0 : Ref sig .tc := ⟨.hbm, 311, rfl⟩
abbrev main_call0_call10_v1 : Ref sig .tc := ⟨.hbm, 312, rfl⟩
abbrev main_call0_call10_v2 : Ref sig .tc := ⟨.hbm, 313, rfl⟩
abbrev main_call0_call10_v3 : Ref sig .tc := ⟨.hbm, 314, rfl⟩
abbrev main_call0_call10_v4 : Ref sig .tc := ⟨.hbm, 315, rfl⟩
abbrev main_call0_v183 : Ref sig .tc := ⟨.hbm, 316, rfl⟩
abbrev main_call0_v184 : Ref sig .tc := ⟨.hbm, 317, rfl⟩
abbrev main_call0_c_60 : Ref sig .tc := ⟨.hbm, 318, rfl⟩
abbrev main_call0_c_61 : Ref sig .tc := ⟨.hbm, 319, rfl⟩
abbrev main_call0_call11_v0 : Ref sig .tc := ⟨.hbm, 320, rfl⟩
abbrev main_call0_call11_v1 : Ref sig .tc := ⟨.hbm, 321, rfl⟩
abbrev main_call0_call11_v2 : Ref sig .tc := ⟨.hbm, 322, rfl⟩
abbrev main_call0_call11_v3 : Ref sig .tc := ⟨.hbm, 323, rfl⟩
abbrev main_call0_call11_v4 : Ref sig .tc := ⟨.hbm, 324, rfl⟩
abbrev main_call0_v185 : Ref sig .tc := ⟨.hbm, 325, rfl⟩
abbrev main_call0_v186 : Ref sig .tc := ⟨.hbm, 326, rfl⟩
abbrev main_call0_c_62 : Ref sig .tc := ⟨.hbm, 327, rfl⟩
abbrev main_call0_v187 : Ref sig .tc := ⟨.hbm, 328, rfl⟩
abbrev main_call0_v188 : Ref sig .tc := ⟨.hbm, 329, rfl⟩
abbrev main_call0_c_63 : Ref sig .tc := ⟨.hbm, 330, rfl⟩
abbrev main_call0_v189 : Ref sig .tc := ⟨.hbm, 331, rfl⟩
abbrev main_call0_v190 : Ref sig .tc := ⟨.hbm, 332, rfl⟩
abbrev main_call0_v191 : Ref sig .tc := ⟨.hbm, 333, rfl⟩
abbrev main_call0_c_64 : Ref sig .tc := ⟨.hbm, 334, rfl⟩
abbrev main_call0_v192 : Ref sig .tc := ⟨.hbm, 335, rfl⟩
abbrev main_call0_v193 : Ref sig .tc := ⟨.hbm, 336, rfl⟩
abbrev main_call0_c_65 : Ref sig .tc := ⟨.hbm, 337, rfl⟩
abbrev main_call0_v194 : Ref sig .tc := ⟨.hbm, 338, rfl⟩
abbrev main_call0_v195 : Ref sig .tc := ⟨.hbm, 339, rfl⟩
abbrev main_call0_v196 : Ref sig .tc := ⟨.hbm, 340, rfl⟩
abbrev main_call0_v197 : Ref sig .tc := ⟨.hbm, 341, rfl⟩
abbrev main_call0_v198 : Ref sig .tc := ⟨.hbm, 342, rfl⟩
abbrev main_call0_v199 : Ref sig .tc := ⟨.hbm, 343, rfl⟩
abbrev main_call0_v200 : Ref sig .tc := ⟨.hbm, 344, rfl⟩
abbrev main_call0_cst_66 : Ref sig .tc := ⟨.hbm, 345, rfl⟩
abbrev main_call0_call12_v0 : Ref sig .tc := ⟨.hbm, 346, rfl⟩
abbrev main_call0_call12_v1 : Ref sig .tc := ⟨.hbm, 347, rfl⟩
abbrev main_call0_call12_v2 : Ref sig .tc := ⟨.hbm, 348, rfl⟩
abbrev main_call0_v201 : Ref sig .tc := ⟨.hbm, 349, rfl⟩
abbrev main_call0_v202 : Ref sig .tc := ⟨.hbm, 350, rfl⟩
abbrev main_call0_v203 : Ref sig .tc := ⟨.hbm, 351, rfl⟩
abbrev main_call0_v204 : Ref sig .tc := ⟨.hbm, 352, rfl⟩
abbrev main_call0_cst_67 : Ref sig .tc := ⟨.hbm, 353, rfl⟩
abbrev main_call0_v205 : Ref sig .tc := ⟨.hbm, 354, rfl⟩
abbrev main_call0_v206 : Ref sig .tc := ⟨.hbm, 355, rfl⟩
abbrev main_call0_cst_68 : Ref sig .tc := ⟨.hbm, 356, rfl⟩
abbrev main_call0_v207 : Ref sig .tc := ⟨.hbm, 357, rfl⟩
abbrev main_call0_v208 : Ref sig .tc := ⟨.hbm, 358, rfl⟩
abbrev main_call0_v209 : Ref sig .tc := ⟨.hbm, 359, rfl⟩
abbrev main_call0_cst_69 : Ref sig .tc := ⟨.hbm, 360, rfl⟩
abbrev main_call0_v210 : Ref sig .tc := ⟨.hbm, 361, rfl⟩
abbrev main_call0_v211 : Ref sig .tc := ⟨.hbm, 362, rfl⟩
abbrev main_call0_v212 : Ref sig .tc := ⟨.hbm, 363, rfl⟩
abbrev main_call0_cst_70 : Ref sig .tc := ⟨.hbm, 364, rfl⟩
abbrev main_call0_v213 : Ref sig .tc := ⟨.hbm, 365, rfl⟩
abbrev main_call0_v214 : Ref sig .tc := ⟨.hbm, 366, rfl⟩
abbrev main_call0_v215 : Ref sig .tc := ⟨.hbm, 367, rfl⟩
abbrev main_call0_c_71 : Ref sig .tc := ⟨.hbm, 368, rfl⟩
abbrev main_call0_c_72 : Ref sig .tc := ⟨.hbm, 369, rfl⟩
abbrev main_call0_call13_v0 : Ref sig .tc := ⟨.hbm, 370, rfl⟩
abbrev main_call0_call13_v1 : Ref sig .tc := ⟨.hbm, 371, rfl⟩
abbrev main_call0_call13_v2 : Ref sig .tc := ⟨.hbm, 372, rfl⟩
abbrev main_call0_call13_v3 : Ref sig .tc := ⟨.hbm, 373, rfl⟩
abbrev main_call0_call13_v4 : Ref sig .tc := ⟨.hbm, 374, rfl⟩
abbrev main_call0_v216 : Ref sig .tc := ⟨.hbm, 375, rfl⟩
abbrev main_call0_v217 : Ref sig .tc := ⟨.hbm, 376, rfl⟩
abbrev main_call0_c_73 : Ref sig .tc := ⟨.hbm, 377, rfl⟩
abbrev main_call0_c_74 : Ref sig .tc := ⟨.hbm, 378, rfl⟩
abbrev main_call0_call14_v0 : Ref sig .tc := ⟨.hbm, 379, rfl⟩
abbrev main_call0_call14_v1 : Ref sig .tc := ⟨.hbm, 380, rfl⟩
abbrev main_call0_call14_v2 : Ref sig .tc := ⟨.hbm, 381, rfl⟩
abbrev main_call0_call14_v3 : Ref sig .tc := ⟨.hbm, 382, rfl⟩
abbrev main_call0_call14_v4 : Ref sig .tc := ⟨.hbm, 383, rfl⟩
abbrev main_call0_v218 : Ref sig .tc := ⟨.hbm, 384, rfl⟩
abbrev main_call0_v219 : Ref sig .tc := ⟨.hbm, 385, rfl⟩
abbrev main_call0_c_75 : Ref sig .tc := ⟨.hbm, 386, rfl⟩
abbrev main_call0_v220 : Ref sig .tc := ⟨.hbm, 387, rfl⟩
abbrev main_call0_v221 : Ref sig .tc := ⟨.hbm, 388, rfl⟩
abbrev main_call0_c_76 : Ref sig .tc := ⟨.hbm, 389, rfl⟩
abbrev main_call0_v222 : Ref sig .tc := ⟨.hbm, 390, rfl⟩
abbrev main_call0_v223 : Ref sig .tc := ⟨.hbm, 391, rfl⟩
abbrev main_call0_v224 : Ref sig .tc := ⟨.hbm, 392, rfl⟩
abbrev main_call0_c_77 : Ref sig .tc := ⟨.hbm, 393, rfl⟩
abbrev main_call0_v225 : Ref sig .tc := ⟨.hbm, 394, rfl⟩
abbrev main_call0_v226 : Ref sig .tc := ⟨.hbm, 395, rfl⟩
abbrev main_call0_c_78 : Ref sig .tc := ⟨.hbm, 396, rfl⟩
abbrev main_call0_v227 : Ref sig .tc := ⟨.hbm, 397, rfl⟩
abbrev main_call0_v228 : Ref sig .tc := ⟨.hbm, 398, rfl⟩
abbrev main_call0_v229 : Ref sig .tc := ⟨.hbm, 399, rfl⟩
abbrev main_call0_v230 : Ref sig .tc := ⟨.hbm, 400, rfl⟩
abbrev main_call0_v231 : Ref sig .tc := ⟨.hbm, 401, rfl⟩
abbrev main_call0_v232 : Ref sig .tc := ⟨.hbm, 402, rfl⟩
abbrev main_call0_v233 : Ref sig .tc := ⟨.hbm, 403, rfl⟩
abbrev main_call0_cst_79 : Ref sig .tc := ⟨.hbm, 404, rfl⟩
abbrev main_call0_call15_v0 : Ref sig .tc := ⟨.hbm, 405, rfl⟩
abbrev main_call0_call15_v1 : Ref sig .tc := ⟨.hbm, 406, rfl⟩
abbrev main_call0_call15_v2 : Ref sig .tc := ⟨.hbm, 407, rfl⟩
abbrev main_call0_v234 : Ref sig .tc := ⟨.hbm, 408, rfl⟩
abbrev main_call0_v235 : Ref sig .tc := ⟨.hbm, 409, rfl⟩
abbrev main_call0_v236 : Ref sig .tc := ⟨.hbm, 410, rfl⟩
abbrev main_v0_2 : Ref sig .tc := ⟨.hbm, 411, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x1x512x512 : Shape := ⟨4, ![4, 1, 512, 512]⟩
abbrev S2 : Shape := ⟨1, ![2]⟩
abbrev S_ : Shape := ⟨0, ![]⟩
abbrev S512x512 : Shape := ⟨2, ![512, 512]⟩
abbrev S1 : Shape := ⟨1, ![1]⟩
abbrev S2x512 : Shape := ⟨2, ![2, 512]⟩
abbrev S512x2 : Shape := ⟨2, ![512, 2]⟩
abbrev S1x1x512x512 : Shape := ⟨4, ![1, 1, 512, 512]⟩
abbrev S4x262144 : Shape := ⟨2, ![4, 262144]⟩
abbrev S4x4096 : Shape := ⟨2, ![4, 4096]⟩
abbrev S4x512x512 : Shape := ⟨3, ![4, 512, 512]⟩
abbrev S4x516x516 : Shape := ⟨3, ![4, 516, 516]⟩
abbrev S5 : Shape := ⟨1, ![5]⟩
abbrev S5x5 : Shape := ⟨2, ![5, 5]⟩
abbrev S25 : Shape := ⟨1, ![25]⟩
abbrev S4 : Shape := ⟨1, ![4]⟩
abbrev S25x1 : Shape := ⟨2, ![25, 1]⟩
abbrev S25x2 : Shape := ⟨2, ![25, 2]⟩
abbrev S4x4096x1 : Shape := ⟨3, ![4, 4096, 1]⟩
abbrev S1x25 : Shape := ⟨2, ![1, 25]⟩
abbrev S1x1x25 : Shape := ⟨3, ![1, 1, 25]⟩
abbrev S4x4096x25 : Shape := ⟨3, ![4, 4096, 25]⟩
abbrev S4x4096x25x1 : Shape := ⟨4, ![4, 4096, 25, 1]⟩
abbrev S4x4096x25x2 : Shape := ⟨4, ![4, 4096, 25, 2]⟩
abbrev S4x4096x2 : Shape := ⟨3, ![4, 4096, 2]⟩
abbrev S1x25x2 : Shape := ⟨3, ![1, 25, 2]⟩
abbrev S4x4096x1x2 : Shape := ⟨4, ![4, 4096, 1, 2]⟩
abbrev S1x1x25x2 : Shape := ⟨4, ![1, 1, 25, 2]⟩
abbrev S1x2 : Shape := ⟨2, ![1, 2]⟩
abbrev S1x1x2 : Shape := ⟨3, ![1, 1, 2]⟩
abbrev S4096 : Shape := ⟨1, ![4096]⟩

abbrev nBuf : Space → Nat
  | .hbm => 499
  | .vmem => 0
  | .smem => 0
  | _ => 0

abbrev hbmTy0_0 (i : Nat) : BufTy := match i % 128 with
  | 0 => ⟨S4x1x512x512, .f32⟩
  | 1 => ⟨S2, .f32⟩
  | 2 => ⟨S_, .f32⟩
  | 3 => ⟨S4x1x512x512, .f32⟩
  | 4 => ⟨S_, .f32⟩
  | 5 => ⟨S_, .f32⟩
  | 6 => ⟨S4x1x512x512, .f32⟩
  | 7 => ⟨S4x1x512x512, .i1⟩
  | 8 => ⟨S4x1x512x512, .f32⟩
  | 9 => ⟨S_, .f32⟩
  | 10 => ⟨S_, .f32⟩
  | 11 => ⟨S4x1x512x512, .f32⟩
  | 12 => ⟨S_, .f32⟩
  | 13 => ⟨S4x1x512x512, .f32⟩
  | 14 => ⟨S4x1x512x512, .i1⟩
  | 15 => ⟨S4x1x512x512, .f32⟩
  | 16 => ⟨S_, .f32⟩
  | 17 => ⟨S_, .f32⟩
  | 18 => ⟨S4x1x512x512, .f32⟩
  | 19 => ⟨S4x1x512x512, .i1⟩
  | 20 => ⟨S4x1x512x512, .i1⟩
  | 21 => ⟨S4x1x512x512, .i1⟩
  | 22 => ⟨S4x1x512x512, .i1⟩
  | 23 => ⟨S4x1x512x512, .f32⟩
  | 24 => ⟨S_, .f32⟩
  | 25 => ⟨S_, .f32⟩
  | 26 => ⟨S4x1x512x512, .f32⟩
  | 27 => ⟨S_, .f32⟩
  | 28 => ⟨S4x1x512x512, .f32⟩
  | 29 => ⟨S4x1x512x512, .i1⟩
  | 30 => ⟨S4x1x512x512, .f32⟩
  | 31 => ⟨S_, .f32⟩
  | 32 => ⟨S_, .f32⟩
  | 33 => ⟨S4x1x512x512, .f32⟩
  | 34 => ⟨S4x1x512x512, .i1⟩
  | 35 => ⟨S4x1x512x512, .i1⟩
  | 36 => ⟨S4x1x512x512, .i1⟩
  | 37 => ⟨S4x1x512x512, .i1⟩
  | 38 => ⟨S4x1x512x512, .f32⟩
  | 39 => ⟨S_, .f32⟩
  | 40 => ⟨S512x512, .f32⟩
  | 41 => ⟨S_, .i32⟩
  | 42 => ⟨S1, .i32⟩
  | 43 => ⟨S_, .f32⟩
  | 44 => ⟨S2x512, .f32⟩
  | 45 => ⟨S512x512, .f32⟩
  | 46 => ⟨S_, .i32⟩
  | 47 => ⟨S1, .i32⟩
  | 48 => ⟨S_, .f32⟩
  | 49 => ⟨S512x2, .f32⟩
  | 50 => ⟨S512x512, .f32⟩
  | 51 => ⟨S_, .i32⟩
  | 52 => ⟨S1, .i32⟩
  | 53 => ⟨S_, .f32⟩
  | 54 => ⟨S2x512, .f32⟩
  | 55 => ⟨S512x512, .f32⟩
  | 56 => ⟨S_, .i32⟩
  | 57 => ⟨S1, .i32⟩
  | 58 => ⟨S_, .f32⟩
  | 59 => ⟨S512x2, .f32⟩
  | 60 => ⟨S512x512, .f32⟩
  | 61 => ⟨S1x1x512x512, .f32⟩
  | 62 => ⟨S4x1x512x512, .f32⟩
  | 63 => ⟨S4x1x512x512, .f32⟩
  | 64 => ⟨S4x262144, .f32⟩
  | 65 => ⟨S4x4096, .f32⟩
  | 66 => ⟨S4x4096, .i32⟩
  | 67 => ⟨S4x512x512, .f32⟩
  | 68 => ⟨S_, .i32⟩
  | 69 => ⟨S_, .f32⟩
  | 70 => ⟨S4x516x516, .f32⟩
  | 71 => ⟨S5, .i32⟩
  | 72 => ⟨S5, .i32⟩
  | 73 => ⟨S5x5, .i32⟩
  | 74 => ⟨S5x5, .i32⟩
  | 75 => ⟨S25, .i32⟩
  | 76 => ⟨S25, .i32⟩
  | 77 => ⟨S_, .i32⟩
  | 78 => ⟨S_, .i32⟩
  | 79 => ⟨S_, .f32⟩
  | 80 => ⟨S_, .f32⟩
  | 81 => ⟨S_, .f32⟩
  | 82 => ⟨S_, .f32⟩
  | 83 => ⟨S_, .f32⟩
  | 84 => ⟨S4, .f32⟩
  | 85 => ⟨S_, .f32⟩
  | 86 => ⟨S4, .f32⟩
  | 87 => ⟨S4, .f32⟩
  | 88 => ⟨S1, .f32⟩
  | 89 => ⟨S_, .f32⟩
  | 90 => ⟨S4, .f32⟩
  | 91 => ⟨S4, .f32⟩
  | 92 => ⟨S4, .f32⟩
  | 93 => ⟨S4, .f32⟩
  | 94 => ⟨S1, .f32⟩
  | 95 => ⟨S4, .f32⟩
  | 96 => ⟨S4, .f32⟩
  | 97 => ⟨S4, .f32⟩
  | 98 => ⟨S1, .f32⟩
  | 99 => ⟨S5, .f32⟩
  | 100 => ⟨S5x5, .f32⟩
  | 101 => ⟨S5x5, .f32⟩
  | 102 => ⟨S25, .f32⟩
  | 103 => ⟨S25, .f32⟩
  | 104 => ⟨S25x1, .f32⟩
  | 105 => ⟨S25x1, .f32⟩
  | 106 => ⟨S25x2, .f32⟩
  | 107 => ⟨S4x512x512, .f32⟩
  | 108 => ⟨S_, .i32⟩
  | 109 => ⟨S_, .i32⟩
  | 110 => ⟨S4x4096, .i32⟩
  | 111 => ⟨S4x4096, .i32⟩
  | 112 => ⟨S4x4096, .i32⟩
  | 113 => ⟨S_, .i32⟩
  | 114 => ⟨S4x4096, .i32⟩
  | 115 => ⟨S4x4096, .i1⟩
  | 116 => ⟨S4x4096, .i32⟩
  | 117 => ⟨S4x4096, .i32⟩
  | 118 => ⟨S_, .i32⟩
  | 119 => ⟨S4x4096, .i32⟩
  | 120 => ⟨S4x4096, .i1⟩
  | 121 => ⟨S4x4096, .i1⟩
  | 122 => ⟨S_, .i32⟩
  | 123 => ⟨S4x4096, .i32⟩
  | 124 => ⟨S4x4096, .i32⟩
  | 125 => ⟨S4x4096, .i32⟩
  | 126 => ⟨S_, .i32⟩
  | 127 => ⟨S_, .i32⟩
  | _ => ⟨S4x1x512x512, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S4x4096, .i32⟩
  | 5 => ⟨S4x4096, .i32⟩
  | 6 => ⟨S_, .i32⟩
  | 7 => ⟨S4x4096, .i32⟩
  | 8 => ⟨S4x4096, .i1⟩
  | 9 => ⟨S_, .i32⟩
  | 10 => ⟨S4x4096, .i32⟩
  | 11 => ⟨S4x4096, .i1⟩
  | 12 => ⟨S_, .i32⟩
  | 13 => ⟨S_, .i1⟩
  | 14 => ⟨S4x4096, .i1⟩
  | 15 => ⟨S4x4096, .i1⟩
  | 16 => ⟨S4x4096, .i1⟩
  | 17 => ⟨S4x4096, .i32⟩
  | 18 => ⟨S4x4096, .i32⟩
  | 19 => ⟨S4x4096, .i32⟩
  | 20 => ⟨S4x4096x1, .i32⟩
  | 21 => ⟨S1x25, .i32⟩
  | 22 => ⟨S1x1x25, .i32⟩
  | 23 => ⟨S4x4096x25, .i32⟩
  | 24 => ⟨S4x4096x25, .i32⟩
  | 25 => ⟨S4x4096x25, .i32⟩
  | 26 => ⟨S4x4096x1, .i32⟩
  | 27 => ⟨S1x25, .i32⟩
  | 28 => ⟨S1x1x25, .i32⟩
  | 29 => ⟨S4x4096x25, .i32⟩
  | 30 => ⟨S4x4096x25, .i32⟩
  | 31 => ⟨S4x4096x25, .i32⟩
  | 32 => ⟨S_, .i32⟩
  | 33 => ⟨S4x4096x25, .i32⟩
  | 34 => ⟨S4x4096x25, .i1⟩
  | 35 => ⟨S_, .i32⟩
  | 36 => ⟨S4x4096x25, .i32⟩
  | 37 => ⟨S4x4096x25, .i32⟩
  | 38 => ⟨S4x4096x25, .i32⟩
  | 39 => ⟨S_, .i32⟩
  | 40 => ⟨S4x4096x25, .i32⟩
  | 41 => ⟨S4x4096x25, .i1⟩
  | 42 => ⟨S_, .i32⟩
  | 43 => ⟨S4x4096x25, .i32⟩
  | 44 => ⟨S4x4096x25, .i32⟩
  | 45 => ⟨S4x4096x25, .i32⟩
  | 46 => ⟨S4x4096x25x1, .i32⟩
  | 47 => ⟨S4x4096x25x1, .i32⟩
  | 48 => ⟨S4x4096x25x2, .i32⟩
  | 49 => ⟨S4x4096x25, .f32⟩
  | 50 => ⟨S4x4096, .f32⟩
  | 51 => ⟨S4x4096, .f32⟩
  | 52 => ⟨S4x4096x1, .f32⟩
  | 53 => ⟨S4x4096x1, .f32⟩
  | 54 => ⟨S4x4096x2, .f32⟩
  | 55 => ⟨S_, .f32⟩
  | 56 => ⟨S4x4096, .f32⟩
  | 57 => ⟨S4x4096x1, .f32⟩
  | 58 => ⟨S4x4096x25, .f32⟩
  | 59 => ⟨S4x4096x25, .f32⟩
  | 60 => ⟨S_, .f32⟩
  | 61 => ⟨S4x4096x25, .f32⟩
  | 62 => ⟨S4x4096x25, .f32⟩
  | 63 => ⟨S4x4096x25, .f32⟩
  | 64 => ⟨S_, .f32⟩
  | 65 => ⟨S4x4096, .f32⟩
  | 66 => ⟨S4x4096x1, .f32⟩
  | 67 => ⟨S4x4096x2, .f32⟩
  | 68 => ⟨S4x4096x2, .f32⟩
  | 69 => ⟨S4x4096x2, .f32⟩
  | 70 => ⟨S1x25x2, .f32⟩
  | 71 => ⟨S4x4096x1x2, .f32⟩
  | 72 => ⟨S1x1x25x2, .f32⟩
  | 73 => ⟨S4x4096x25x2, .f32⟩
  | 74 => ⟨S4x4096x25x2, .f32⟩
  | 75 => ⟨S4x4096x25x2, .f32⟩
  | 76 => ⟨S_, .f32⟩
  | 77 => ⟨S4x4096x25x2, .f32⟩
  | 78 => ⟨S4x4096x25x2, .f32⟩
  | 79 => ⟨S4x4096x25x2, .f32⟩
  | 80 => ⟨S_, .f32⟩
  | 81 => ⟨S4x4096x25, .f32⟩
  | 82 => ⟨S4x4096x25, .f32⟩
  | 83 => ⟨S_, .f32⟩
  | 84 => ⟨S4x4096, .f32⟩
  | 85 => ⟨S4x4096, .f32⟩
  | 86 => ⟨S4x4096, .f32⟩
  | 87 => ⟨S4x4096x2, .f32⟩
  | 88 => ⟨S1x2, .f32⟩
  | 89 => ⟨S1x1x2, .f32⟩
  | 90 => ⟨S4x4096x2, .f32⟩
  | 91 => ⟨S4x4096x2, .f32⟩
  | 92 => ⟨S_, .f32⟩
  | 93 => ⟨S4x4096x2, .f32⟩
  | 94 => ⟨S4x4096x2, .f32⟩
  | 95 => ⟨S_, .f32⟩
  | 96 => ⟨S4x4096x2, .f32⟩
  | 97 => ⟨S4x4096x2, .f32⟩
  | 98 => ⟨S4x4096x1, .f32⟩
  | 99 => ⟨S4x4096, .f32⟩
  | 100 => ⟨S_, .f32⟩
  | 101 => ⟨S4x4096, .f32⟩
  | 102 => ⟨S4x4096, .f32⟩
  | 103 => ⟨S_, .f32⟩
  | 104 => ⟨S4x4096, .f32⟩
  | 105 => ⟨S4x4096, .f32⟩
  | 106 => ⟨S_, .f32⟩
  | 107 => ⟨S4x4096, .f32⟩
  | 108 => ⟨S4x4096, .f32⟩
  | 109 => ⟨S4x4096x1, .f32⟩
  | 110 => ⟨S4x4096, .f32⟩
  | 111 => ⟨S_, .f32⟩
  | 112 => ⟨S4x4096, .f32⟩
  | 113 => ⟨S4x4096, .f32⟩
  | 114 => ⟨S_, .f32⟩
  | 115 => ⟨S4x4096, .f32⟩
  | 116 => ⟨S4x4096, .f32⟩
  | 117 => ⟨S_, .f32⟩
  | 118 => ⟨S4x4096, .f32⟩
  | 119 => ⟨S4x4096, .f32⟩
  | 120 => ⟨S4x4096, .f32⟩
  | 121 => ⟨S4x4096, .f32⟩
  | 122 => ⟨S_, .f32⟩
  | 123 => ⟨S4x4096, .f32⟩
  | 124 => ⟨S4x4096, .f32⟩
  | 125 => ⟨S_, .f32⟩
  | 126 => ⟨S4x4096, .f32⟩
  | 127 => ⟨S4x4096, .f32⟩
  | _ => ⟨S4x1x512x512, .f32⟩

abbrev hbmTy0_2 (i : Nat) : BufTy := match i % 128 with
  | 0 => ⟨S4x4096, .f32⟩
  | 1 => ⟨S_, .f32⟩
  | 2 => ⟨S4x4096, .f32⟩
  | 3 => ⟨S4x4096, .f32⟩
  | 4 => ⟨S4x4096, .f32⟩
  | 5 => ⟨S_, .f32⟩
  | 6 => ⟨S4x4096, .f32⟩
  | 7 => ⟨S4x4096, .f32⟩
  | 8 => ⟨S_, .f32⟩
  | 9 => ⟨S4x4096, .f32⟩
  | 10 => ⟨S4x4096, .i1⟩
  | 11 => ⟨S_, .f32⟩
  | 12 => ⟨S4x4096, .f32⟩
  | 13 => ⟨S4x4096, .i1⟩
  | 14 => ⟨S4x4096, .i1⟩
  | 15 => ⟨S_, .f32⟩
  | 16 => ⟨S4x4096, .f32⟩
  | 17 => ⟨S4x4096, .i1⟩
  | 18 => ⟨S4x4096, .i1⟩
  | 19 => ⟨S_, .f32⟩
  | 20 => ⟨S4x4096, .f32⟩
  | 21 => ⟨S4x4096, .i1⟩
  | 22 => ⟨S4x4096, .i1⟩
  | 23 => ⟨S_, .i32⟩
  | 24 => ⟨S_, .i32⟩
  | 25 => ⟨S_, .f32⟩
  | 26 => ⟨S4x4096, .f32⟩
  | 27 => ⟨S4x4096, .f32⟩
  | 28 => ⟨S_, .f32⟩
  | 29 => ⟨S4x4096, .f32⟩
  | 30 => ⟨S4x4096, .f32⟩
  | 31 => ⟨S4x4096, .i32⟩
  | 32 => ⟨S_, .i32⟩
  | 33 => ⟨S_, .i32⟩
  | 34 => ⟨S_, .f32⟩
  | 35 => ⟨S4x4096, .f32⟩
  | 36 => ⟨S4x4096, .f32⟩
  | 37 => ⟨S_, .f32⟩
  | 38 => ⟨S4x4096, .f32⟩
  | 39 => ⟨S4x4096, .f32⟩
  | 40 => ⟨S4x4096, .i32⟩
  | 41 => ⟨S_, .i32⟩
  | 42 => ⟨S4x4096, .i32⟩
  | 43 => ⟨S4x4096, .i1⟩
  | 44 => ⟨S_, .i32⟩
  | 45 => ⟨S4x4096, .i32⟩
  | 46 => ⟨S4x4096, .i32⟩
  | 47 => ⟨S4x4096, .i32⟩
  | 48 => ⟨S_, .i32⟩
  | 49 => ⟨S4x4096, .i32⟩
  | 50 => ⟨S4x4096, .i1⟩
  | 51 => ⟨S_, .i32⟩
  | 52 => ⟨S4x4096, .i32⟩
  | 53 => ⟨S4x4096, .i32⟩
  | 54 => ⟨S4x4096, .i32⟩
  | 55 => ⟨S4x4096x1, .i32⟩
  | 56 => ⟨S4x4096x1, .i32⟩
  | 57 => ⟨S4x4096x2, .i32⟩
  | 58 => ⟨S4x4096, .f32⟩
  | 59 => ⟨S_, .f32⟩
  | 60 => ⟨S_, .f32⟩
  | 61 => ⟨S4096, .f32⟩
  | 62 => ⟨S4x4096, .f32⟩
  | 63 => ⟨S4x4096, .f32⟩
  | 64 => ⟨S4x4096, .f32⟩
  | 65 => ⟨S4x4096, .f32⟩
  | 66 => ⟨S_, .f32⟩
  | 67 => ⟨S4x4096, .f32⟩
  | 68 => ⟨S4x4096, .i1⟩
  | 69 => ⟨S_, .f32⟩
  | 70 => ⟨S4x4096, .f32⟩
  | 71 => ⟨S4x4096, .i1⟩
  | 72 => ⟨S4x4096, .i1⟩
  | 73 => ⟨S_, .f32⟩
  | 74 => ⟨S4x4096, .f32⟩
  | 75 => ⟨S4x4096, .i1⟩
  | 76 => ⟨S4x4096, .i1⟩
  | 77 => ⟨S_, .f32⟩
  | 78 => ⟨S4x4096, .f32⟩
  | 79 => ⟨S4x4096, .i1⟩
  | 80 => ⟨S4x4096, .i1⟩
  | 81 => ⟨S_, .i32⟩
  | 82 => ⟨S_, .i32⟩
  | 83 => ⟨S_, .f32⟩
  | 84 => ⟨S4x4096, .f32⟩
  | 85 => ⟨S4x4096, .f32⟩
  | 86 => ⟨S_, .f32⟩
  | 87 => ⟨S4x4096, .f32⟩
  | 88 => ⟨S4x4096, .f32⟩
  | 89 => ⟨S4x4096, .i32⟩
  | 90 => ⟨S_, .i32⟩
  | 91 => ⟨S_, .i32⟩
  | 92 => ⟨S_, .f32⟩
  | 93 => ⟨S4x4096, .f32⟩
  | 94 => ⟨S4x4096, .f32⟩
  | 95 => ⟨S_, .f32⟩
  | 96 => ⟨S4x4096, .f32⟩
  | 97 => ⟨S4x4096, .f32⟩
  | 98 => ⟨S4x4096, .i32⟩
  | 99 => ⟨S_, .i32⟩
  | 100 => ⟨S4x4096, .i32⟩
  | 101 => ⟨S4x4096, .i1⟩
  | 102 => ⟨S_, .i32⟩
  | 103 => ⟨S4x4096, .i32⟩
  | 104 => ⟨S4x4096, .i32⟩
  | 105 => ⟨S4x4096, .i32⟩
  | 106 => ⟨S_, .i32⟩
  | 107 => ⟨S4x4096, .i32⟩
  | 108 => ⟨S4x4096, .i1⟩
  | 109 => ⟨S_, .i32⟩
  | 110 => ⟨S4x4096, .i32⟩
  | 111 => ⟨S4x4096, .i32⟩
  | 112 => ⟨S4x4096, .i32⟩
  | 113 => ⟨S4x4096x1, .i32⟩
  | 114 => ⟨S4x4096x1, .i32⟩
  | 115 => ⟨S4x4096x2, .i32⟩
  | 116 => ⟨S4x4096, .f32⟩
  | 117 => ⟨S_, .f32⟩
  | 118 => ⟨S_, .f32⟩
  | 119 => ⟨S4096, .f32⟩
  | 120 => ⟨S4x4096, .f32⟩
  | 121 => ⟨S4x4096, .f32⟩
  | 122 => ⟨S4x4096, .f32⟩
  | 123 => ⟨S4x4096, .f32⟩
  | 124 => ⟨S4x4096, .f32⟩
  | 125 => ⟨S_, .f32⟩
  | 126 => ⟨S4x4096, .f32⟩
  | 127 => ⟨S4x4096, .i1⟩
  | _ => ⟨S4x1x512x512, .f32⟩

abbrev hbmTy0_3 (i : Nat) : BufTy := match i % 128 with
  | 0 => ⟨S_, .f32⟩
  | 1 => ⟨S4x4096, .f32⟩
  | 2 => ⟨S4x4096, .i1⟩
  | 3 => ⟨S4x4096, .i1⟩
  | 4 => ⟨S_, .f32⟩
  | 5 => ⟨S4x4096, .f32⟩
  | 6 => ⟨S4x4096, .i1⟩
  | 7 => ⟨S4x4096, .i1⟩
  | 8 => ⟨S_, .f32⟩
  | 9 => ⟨S4x4096, .f32⟩
  | 10 => ⟨S4x4096, .i1⟩
  | 11 => ⟨S4x4096, .i1⟩
  | 12 => ⟨S_, .i32⟩
  | 13 => ⟨S_, .i32⟩
  | 14 => ⟨S_, .f32⟩
  | 15 => ⟨S4x4096, .f32⟩
  | 16 => ⟨S4x4096, .f32⟩
  | 17 => ⟨S_, .f32⟩
  | 18 => ⟨S4x4096, .f32⟩
  | 19 => ⟨S4x4096, .f32⟩
  | 20 => ⟨S4x4096, .i32⟩
  | 21 => ⟨S_, .i32⟩
  | 22 => ⟨S_, .i32⟩
  | 23 => ⟨S_, .f32⟩
  | 24 => ⟨S4x4096, .f32⟩
  | 25 => ⟨S4x4096, .f32⟩
  | 26 => ⟨S_, .f32⟩
  | 27 => ⟨S4x4096, .f32⟩
  | 28 => ⟨S4x4096, .f32⟩
  | 29 => ⟨S4x4096, .i32⟩
  | 30 => ⟨S_, .i32⟩
  | 31 => ⟨S4x4096, .i32⟩
  | 32 => ⟨S4x4096, .i1⟩
  | 33 => ⟨S_, .i32⟩
  | 34 => ⟨S4x4096, .i32⟩
  | 35 => ⟨S4x4096, .i32⟩
  | 36 => ⟨S4x4096, .i32⟩
  | 37 => ⟨S_, .i32⟩
  | 38 => ⟨S4x4096, .i32⟩
  | 39 => ⟨S4x4096, .i1⟩
  | 40 => ⟨S_, .i32⟩
  | 41 => ⟨S4x4096, .i32⟩
  | 42 => ⟨S4x4096, .i32⟩
  | 43 => ⟨S4x4096, .i32⟩
  | 44 => ⟨S4x4096x1, .i32⟩
  | 45 => ⟨S4x4096x1, .i32⟩
  | 46 => ⟨S4x4096x2, .i32⟩
  | 47 => ⟨S4x4096, .f32⟩
  | 48 => ⟨S_, .f32⟩
  | 49 => ⟨S_, .f32⟩
  | 50 => ⟨S4096, .f32⟩
  | 51 => ⟨S4x4096, .f32⟩
  | 52 => ⟨S4x4096, .f32⟩
  | 53 => ⟨S4x4096, .f32⟩
  | 54 => ⟨S4x4096, .f32⟩
  | 55 => ⟨S4x4096, .f32⟩
  | 56 => ⟨S_, .f32⟩
  | 57 => ⟨S4x4096, .f32⟩
  | 58 => ⟨S4x4096, .i1⟩
  | 59 => ⟨S_, .f32⟩
  | 60 => ⟨S4x4096, .f32⟩
  | 61 => ⟨S4x4096, .i1⟩
  | 62 => ⟨S4x4096, .i1⟩
  | 63 => ⟨S_, .f32⟩
  | 64 => ⟨S4x4096, .f32⟩
  | 65 => ⟨S4x4096, .i1⟩
  | 66 => ⟨S4x4096, .i1⟩
  | 67 => ⟨S_, .f32⟩
  | 68 => ⟨S4x4096, .f32⟩
  | 69 => ⟨S4x4096, .i1⟩
  | 70 => ⟨S4x4096, .i1⟩
  | 71 => ⟨S_, .i32⟩
  | 72 => ⟨S_, .i32⟩
  | 73 => ⟨S_, .f32⟩
  | 74 => ⟨S4x4096, .f32⟩
  | 75 => ⟨S4x4096, .f32⟩
  | 76 => ⟨S_, .f32⟩
  | 77 => ⟨S4x4096, .f32⟩
  | 78 => ⟨S4x4096, .f32⟩
  | 79 => ⟨S4x4096, .i32⟩
  | 80 => ⟨S_, .i32⟩
  | 81 => ⟨S_, .i32⟩
  | 82 => ⟨S_, .f32⟩
  | 83 => ⟨S4x4096, .f32⟩
  | 84 => ⟨S4x4096, .f32⟩
  | 85 => ⟨S_, .f32⟩
  | 86 => ⟨S4x4096, .f32⟩
  | 87 => ⟨S4x4096, .f32⟩
  | 88 => ⟨S4x4096, .i32⟩
  | 89 => ⟨S_, .i32⟩
  | 90 => ⟨S4x4096, .i32⟩
  | 91 => ⟨S4x4096, .i1⟩
  | 92 => ⟨S_, .i32⟩
  | 93 => ⟨S4x4096, .i32⟩
  | 94 => ⟨S4x4096, .i32⟩
  | 95 => ⟨S4x4096, .i32⟩
  | 96 => ⟨S_, .i32⟩
  | 97 => ⟨S4x4096, .i32⟩
  | 98 => ⟨S4x4096, .i1⟩
  | 99 => ⟨S_, .i32⟩
  | 100 => ⟨S4x4096, .i32⟩
  | 101 => ⟨S4x4096, .i32⟩
  | 102 => ⟨S4x4096, .i32⟩
  | 103 => ⟨S4x4096x1, .i32⟩
  | 104 => ⟨S4x4096x1, .i32⟩
  | 105 => ⟨S4x4096x2, .i32⟩
  | 106 => ⟨S4x4096, .f32⟩
  | 107 => ⟨S_, .f32⟩
  | 108 => ⟨S_, .f32⟩
  | 109 => ⟨S4096, .f32⟩
  | 110 => ⟨S4x4096, .f32⟩
  | 111 => ⟨S4x4096, .f32⟩
  | 112 => ⟨S4x4096, .f32⟩
  | 113 => ⟨S4x4096, .f32⟩
  | 114 => ⟨S4x4096, .f32⟩
  | _ => ⟨S4x1x512x512, .f32⟩

abbrev hbmTy (i : Nat) : BufTy := match i / 128 with
  | 0 => hbmTy0_0 i
  | 1 => hbmTy0_1 i
  | 2 => hbmTy0_2 i
  | 3 => hbmTy0_3 i
  | _ => ⟨S4x1x512x512, .f32⟩

abbrev bufTy : (tb : Table) → Fin (tcTables nBuf tb) → BufTy
  | .hbm, ⟨i, _⟩ => hbmTy i
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_cst_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_cst_6 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_7 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_c_10 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_v35 : Ref sig .tc := ⟨.hbm, 50, rfl⟩
abbrev main_c_12 : Ref sig .tc := ⟨.hbm, 51, rfl⟩
abbrev main_v36 : Ref sig .tc := ⟨.hbm, 52, rfl⟩
abbrev main_cst_13 : Ref sig .tc := ⟨.hbm, 53, rfl⟩
abbrev main_v37 : Ref sig .tc := ⟨.hbm, 54, rfl⟩
abbrev main_v38 : Ref sig .tc := ⟨.hbm, 55, rfl⟩
abbrev main_c_14 : Ref sig .tc := ⟨.hbm, 56, rfl⟩
abbrev main_v39 : Ref sig .tc := ⟨.hbm, 57, rfl⟩
abbrev main_cst_15 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_values : Ref sig .tc := ⟨.hbm, 65, rfl⟩
abbrev main_indices : Ref sig .tc := ⟨.hbm, 66, rfl⟩
abbrev main_v46 : Ref sig .tc := ⟨.hbm, 67, rfl⟩
abbrev main_c_16 : Ref sig .tc := ⟨.hbm, 68, rfl⟩
abbrev main_call3_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_17 : Ref sig .tc := ⟨.hbm, 77, rfl⟩
abbrev main_c_18 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_cst : Ref sig .tc := ⟨.hbm, 82, rfl⟩
abbrev main_call4_v3 : Ref sig .tc := ⟨.hbm, 83, rfl⟩
abbrev main_call4_v4 : Ref sig .tc := ⟨.hbm, 84, rfl⟩
abbrev main_call4_cst_0 : Ref sig .tc := ⟨.hbm, 85, rfl⟩
abbrev main_call4_v5 : Ref sig .tc := ⟨.hbm, 86, rfl⟩
abbrev main_call4_v6 : Ref sig .tc := ⟨.hbm, 87, rfl⟩
abbrev main_call4_v7 : Ref sig .tc := ⟨.hbm, 88, rfl⟩
abbrev main_call4_cst_1 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_v12 : Ref sig .tc := ⟨.hbm, 94, rfl⟩
abbrev main_call4_v13 : Ref sig .tc := ⟨.hbm, 95, rfl⟩
abbrev main_call4_v14 : Ref sig .tc := ⟨.hbm, 96, rfl⟩
abbrev main_call4_v15 : Ref sig .tc := ⟨.hbm, 97, rfl⟩
abbrev main_call4_v16 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_19 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_c : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_c_0 : Ref sig .tc := ⟨.hbm, 122, rfl⟩
abbrev main_call5_v12 : Ref sig .tc := ⟨.hbm, 123, rfl⟩
abbrev main_call5_v13 : Ref sig .tc := ⟨.hbm, 124, rfl⟩
abbrev main_v63 : Ref sig .tc := ⟨.hbm, 125, rfl⟩
abbrev main_c_20 : Ref sig .tc := ⟨.hbm, 126, rfl⟩
abbrev main_call6_v0 : Ref sig .tc := ⟨.hbm, 127, rfl⟩
abbrev main_call6_c : Ref sig .tc := ⟨.hbm, 128, rfl⟩
abbrev main_call6_v1 : Ref sig .tc := ⟨.hbm, 129, rfl⟩
abbrev main_call6_c_0 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_call6_c_1 : Ref sig .tc := ⟨.hbm, 134, rfl⟩
abbrev main_call6_v5 : Ref sig .tc := ⟨.hbm, 135, rfl⟩
abbrev main_call6_v6 : Ref sig .tc := ⟨.hbm, 136, rfl⟩
abbrev main_call6_c_2 : Ref sig .tc := ⟨.hbm, 137, rfl⟩
abbrev main_call6_v7 : Ref sig .tc := ⟨.hbm, 138, rfl⟩
abbrev main_call6_v8 : Ref sig .tc := ⟨.hbm, 139, rfl⟩
abbrev main_call6_c_3 : Ref sig .tc := ⟨.hbm, 140, rfl⟩
abbrev main_call6_v9 : Ref sig .tc := ⟨.hbm, 141, rfl⟩
abbrev main_call6_v10 : Ref sig .tc := ⟨.hbm, 142, rfl⟩
abbrev main_call6_v11 : Ref sig .tc := ⟨.hbm, 143, rfl⟩
abbrev main_call6_v12 : Ref sig .tc := ⟨.hbm, 144, rfl⟩
abbrev main_call6_v13 : Ref sig .tc := ⟨.hbm, 145, rfl⟩
abbrev main_call6_v14 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_c_21 : Ref sig .tc := ⟨.hbm, 160, rfl⟩
abbrev main_v77 : Ref sig .tc := ⟨.hbm, 161, rfl⟩
abbrev main_v78 : Ref sig .tc := ⟨.hbm, 162, rfl⟩
abbrev main_c_22 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_c_23 : Ref sig .tc := ⟨.hbm, 167, rfl⟩
abbrev main_v82 : Ref sig .tc := ⟨.hbm, 168, rfl⟩
abbrev main_v83 : Ref sig .tc := ⟨.hbm, 169, rfl⟩
abbrev main_c_24 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_cst_25 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_cst_26 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_cst_27 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_cst_28 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_cst_29 : Ref sig .tc := ⟨.hbm, 208, rfl⟩
abbrev main_v117 : Ref sig .tc := ⟨.hbm, 209, rfl⟩
abbrev main_v118 : Ref sig .tc := ⟨.hbm, 210, rfl⟩
abbrev main_cst_30 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_cst_31 : Ref sig .tc := ⟨.hbm, 220, rfl⟩
abbrev main_v127 : Ref sig .tc := ⟨.hbm, 221, rfl⟩
abbrev main_v128 : Ref sig .tc := ⟨.hbm, 222, rfl⟩
abbrev main_cst_32 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_cst_33 : Ref sig .tc := ⟨.hbm, 228, rfl⟩
abbrev main_v133 : Ref sig .tc := ⟨.hbm, 229, rfl⟩
abbrev main_v134 : Ref sig .tc := ⟨.hbm, 230, rfl⟩
abbrev main_cst_34 : Ref sig .tc := ⟨.hbm, 231, rfl⟩
abbrev main_v135 : Ref sig .tc := ⟨.hbm, 232, rfl⟩
abbrev main_v136 : Ref sig .tc := ⟨.hbm, 233, rfl⟩
abbrev main_cst_35 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_cst_36 : Ref sig .tc := ⟨.hbm, 239, rfl⟩
abbrev main_v141 : Ref sig .tc := ⟨.hbm, 240, rfl⟩
abbrev main_v142 : Ref sig .tc := ⟨.hbm, 241, rfl⟩
abbrev main_cst_37 : Ref sig .tc := ⟨.hbm, 242, rfl⟩
abbrev main_v143 : Ref sig .tc := ⟨.hbm, 243, rfl⟩
abbrev main_v144 : Ref sig .tc := ⟨.hbm, 244, rfl⟩
abbrev main_cst_38 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_cst_39 : Ref sig .tc := ⟨.hbm, 250, rfl⟩
abbrev main_v149 : Ref sig .tc := ⟨.hbm, 251, rfl⟩
abbrev main_v150 : Ref sig .tc := ⟨.hbm, 252, rfl⟩
abbrev main_cst_40 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_cst_41 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_cst_42 : Ref sig .tc := ⟨.hbm, 261, rfl⟩
abbrev main_v157 : Ref sig .tc := ⟨.hbm, 262, rfl⟩
abbrev main_v158 : Ref sig .tc := ⟨.hbm, 263, rfl⟩
abbrev main_cst_43 : Ref sig .tc := ⟨.hbm, 264, rfl⟩
abbrev main_v159 : Ref sig .tc := ⟨.hbm, 265, rfl⟩
abbrev main_v160 : Ref sig .tc := ⟨.hbm, 266, rfl⟩
abbrev main_cst_44 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_cst_45 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_cst_46 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_c_47 : Ref sig .tc := ⟨.hbm, 279, rfl⟩
abbrev main_c_48 : Ref sig .tc := ⟨.hbm, 280, rfl⟩
abbrev main_call7_v0 : Ref sig .tc := ⟨.hbm, 281, rfl⟩
abbrev main_call7_v1 : Ref sig .tc := ⟨.hbm, 282, rfl⟩
abbrev main_call7_v2 : Ref sig .tc := ⟨.hbm, 283, rfl⟩
abbrev main_call7_v3 : Ref sig .tc := ⟨.hbm, 284, rfl⟩
abbrev main_call7_v4 : Ref sig .tc := ⟨.hbm, 285, rfl⟩
abbrev main_v170 : Ref sig .tc := ⟨.hbm, 286, rfl⟩
abbrev main_v171 : Ref sig .tc := ⟨.hbm, 287, rfl⟩
abbrev main_c_49 : Ref sig .tc := ⟨.hbm, 288, rfl⟩
abbrev main_c_50 : Ref sig .tc := ⟨.hbm, 289, rfl⟩
abbrev main_call8_v0 : Ref sig .tc := ⟨.hbm, 290, rfl⟩
abbrev main_call8_v1 : Ref sig .tc := ⟨.hbm, 291, rfl⟩
abbrev main_call8_v2 : Ref sig .tc := ⟨.hbm, 292, rfl⟩
abbrev main_call8_v3 : Ref sig .tc := ⟨.hbm, 293, rfl⟩
abbrev main_call8_v4 : Ref sig .tc := ⟨.hbm, 294, rfl⟩
abbrev main_v172 : Ref sig .tc := ⟨.hbm, 295, rfl⟩
abbrev main_v173 : Ref sig .tc := ⟨.hbm, 296, rfl⟩
abbrev main_c_51 : Ref sig .tc := ⟨.hbm, 297, rfl⟩
abbrev main_v174 : Ref sig .tc := ⟨.hbm, 298, rfl⟩
abbrev main_v175 : Ref sig .tc := ⟨.hbm, 299, rfl⟩
abbrev main_c_52 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_c_53 : Ref sig .tc := ⟨.hbm, 304, rfl⟩
abbrev main_v179 : Ref sig .tc := ⟨.hbm, 305, rfl⟩
abbrev main_v180 : Ref sig .tc := ⟨.hbm, 306, rfl⟩
abbrev main_c_54 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_cst_55 : Ref sig .tc := ⟨.hbm, 315, rfl⟩
abbrev main_call9_v0 : Ref sig .tc := ⟨.hbm, 316, rfl⟩
abbrev main_call9_v1 : Ref sig .tc := ⟨.hbm, 317, rfl⟩
abbrev main_call9_v2 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_cst_56 : Ref sig .tc := ⟨.hbm, 322, rfl⟩
abbrev main_v191 : Ref sig .tc := ⟨.hbm, 323, rfl⟩
abbrev main_v192 : Ref sig .tc := ⟨.hbm, 324, rfl⟩
abbrev main_cst_57 : Ref sig .tc := ⟨.hbm, 325, rfl⟩
abbrev main_v193 : Ref sig .tc := ⟨.hbm, 326, rfl⟩
abbrev main_v194 : Ref sig .tc := ⟨.hbm, 327, rfl⟩
abbrev main_v195 : Ref sig .tc := ⟨.hbm, 328, rfl⟩
abbrev main_cst_58 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_cst_59 : Ref sig .tc := ⟨.hbm, 333, rfl⟩
abbrev main_v199 : Ref sig .tc := ⟨.hbm, 334, rfl⟩
abbrev main_v200 : Ref sig .tc := ⟨.hbm, 335, rfl⟩
abbrev main_v201 : Ref sig .tc := ⟨.hbm, 336, rfl⟩
abbrev main_c_60 : Ref sig .tc := ⟨.hbm, 337, rfl⟩
abbrev main_c_61 : Ref sig .tc := ⟨.hbm, 338, rfl⟩
abbrev main_call10_v0 : Ref sig .tc := ⟨.hbm, 339, rfl⟩
abbrev main_call10_v1 : Ref sig .tc := ⟨.hbm, 340, rfl⟩
abbrev main_call10_v2 : Ref sig .tc := ⟨.hbm, 341, rfl⟩
abbrev main_call10_v3 : Ref sig .tc := ⟨.hbm, 342, rfl⟩
abbrev main_call10_v4 : Ref sig .tc := ⟨.hbm, 343, rfl⟩
abbrev main_v202 : Ref sig .tc := ⟨.hbm, 344, rfl⟩
abbrev main_v203 : Ref sig .tc := ⟨.hbm, 345, rfl⟩
abbrev main_c_62 : Ref sig .tc := ⟨.hbm, 346, rfl⟩
abbrev main_c_63 : Ref sig .tc := ⟨.hbm, 347, rfl⟩
abbrev main_call11_v0 : Ref sig .tc := ⟨.hbm, 348, rfl⟩
abbrev main_call11_v1 : Ref sig .tc := ⟨.hbm, 349, rfl⟩
abbrev main_call11_v2 : Ref sig .tc := ⟨.hbm, 350, rfl⟩
abbrev main_call11_v3 : Ref sig .tc := ⟨.hbm, 351, rfl⟩
abbrev main_call11_v4 : Ref sig .tc := ⟨.hbm, 352, rfl⟩
abbrev main_v204 : Ref sig .tc := ⟨.hbm, 353, rfl⟩
abbrev main_v205 : Ref sig .tc := ⟨.hbm, 354, rfl⟩
abbrev main_c_64 : Ref sig .tc := ⟨.hbm, 355, rfl⟩
abbrev main_v206 : Ref sig .tc := ⟨.hbm, 356, rfl⟩
abbrev main_v207 : Ref sig .tc := ⟨.hbm, 357, rfl⟩
abbrev main_c_65 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_c_66 : Ref sig .tc := ⟨.hbm, 362, rfl⟩
abbrev main_v211 : Ref sig .tc := ⟨.hbm, 363, rfl⟩
abbrev main_v212 : Ref sig .tc := ⟨.hbm, 364, rfl⟩
abbrev main_c_67 : Ref sig .tc := ⟨.hbm, 365, rfl⟩
abbrev main_v213 : Ref sig .tc := ⟨.hbm, 366, rfl⟩
abbrev main_v214 : Ref sig .tc := ⟨.hbm, 367, rfl⟩
abbrev main_v215 : Ref sig .tc := ⟨.hbm, 368, rfl⟩
abbrev main_v216 : Ref sig .tc := ⟨.hbm, 369, rfl⟩
abbrev main_v217 : Ref sig .tc := ⟨.hbm, 370, rfl⟩
abbrev main_v218 : Ref sig .tc := ⟨.hbm, 371, rfl⟩
abbrev main_v219 : Ref sig .tc := ⟨.hbm, 372, rfl⟩
abbrev main_cst_68 : Ref sig .tc := ⟨.hbm, 373, rfl⟩
abbrev main_call12_v0 : Ref sig .tc := ⟨.hbm, 374, rfl⟩
abbrev main_call12_v1 : Ref sig .tc := ⟨.hbm, 375, rfl⟩
abbrev main_call12_v2 : Ref sig .tc := ⟨.hbm, 376, rfl⟩
abbrev main_v220 : Ref sig .tc := ⟨.hbm, 377, rfl⟩
abbrev main_v221 : Ref sig .tc := ⟨.hbm, 378, rfl⟩
abbrev main_v222 : Ref sig .tc := ⟨.hbm, 379, rfl⟩
abbrev main_v223 : Ref sig .tc := ⟨.hbm, 380, rfl⟩
abbrev main_cst_69 : Ref sig .tc := ⟨.hbm, 381, rfl⟩
abbrev main_v224 : Ref sig .tc := ⟨.hbm, 382, rfl⟩
abbrev main_v225 : Ref sig .tc := ⟨.hbm, 383, rfl⟩
abbrev main_cst_70 : Ref sig .tc := ⟨.hbm, 384, rfl⟩
abbrev main_v226 : Ref sig .tc := ⟨.hbm, 385, rfl⟩
abbrev main_v227 : Ref sig .tc := ⟨.hbm, 386, rfl⟩
abbrev main_v228 : Ref sig .tc := ⟨.hbm, 387, rfl⟩
abbrev main_cst_71 : Ref sig .tc := ⟨.hbm, 388, rfl⟩
abbrev main_v229 : Ref sig .tc := ⟨.hbm, 389, rfl⟩
abbrev main_v230 : Ref sig .tc := ⟨.hbm, 390, rfl⟩
abbrev main_v231 : Ref sig .tc := ⟨.hbm, 391, rfl⟩
abbrev main_cst_72 : Ref sig .tc := ⟨.hbm, 392, rfl⟩
abbrev main_v232 : Ref sig .tc := ⟨.hbm, 393, rfl⟩
abbrev main_v233 : Ref sig .tc := ⟨.hbm, 394, rfl⟩
abbrev main_v234 : Ref sig .tc := ⟨.hbm, 395, rfl⟩
abbrev main_c_73 : Ref sig .tc := ⟨.hbm, 396, rfl⟩
abbrev main_c_74 : Ref sig .tc := ⟨.hbm, 397, rfl⟩
abbrev main_call13_v0 : Ref sig .tc := ⟨.hbm, 398, rfl⟩
abbrev main_call13_v1 : Ref sig .tc := ⟨.hbm, 399, rfl⟩
abbrev main_call13_v2 : Ref sig .tc := ⟨.hbm, 400, rfl⟩
abbrev main_call13_v3 : Ref sig .tc := ⟨.hbm, 401, rfl⟩
abbrev main_call13_v4 : Ref sig .tc := ⟨.hbm, 402, rfl⟩
abbrev main_v235 : Ref sig .tc := ⟨.hbm, 403, rfl⟩
abbrev main_v236 : Ref sig .tc := ⟨.hbm, 404, rfl⟩
abbrev main_c_75 : Ref sig .tc := ⟨.hbm, 405, rfl⟩
abbrev main_c_76 : Ref sig .tc := ⟨.hbm, 406, rfl⟩
abbrev main_call14_v0 : Ref sig .tc := ⟨.hbm, 407, rfl⟩
abbrev main_call14_v1 : Ref sig .tc := ⟨.hbm, 408, rfl⟩
abbrev main_call14_v2 : Ref sig .tc := ⟨.hbm, 409, rfl⟩
abbrev main_call14_v3 : Ref sig .tc := ⟨.hbm, 410, rfl⟩
abbrev main_call14_v4 : Ref sig .tc := ⟨.hbm, 411, rfl⟩
abbrev main_v237 : Ref sig .tc := ⟨.hbm, 412, rfl⟩
abbrev main_v238 : Ref sig .tc := ⟨.hbm, 413, rfl⟩
abbrev main_c_77 : Ref sig .tc := ⟨.hbm, 414, rfl⟩
abbrev main_v239 : Ref sig .tc := ⟨.hbm, 415, rfl⟩
abbrev main_v240 : Ref sig .tc := ⟨.hbm, 416, rfl⟩
abbrev main_c_78 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_c_79 : Ref sig .tc := ⟨.hbm, 421, rfl⟩
abbrev main_v244 : Ref sig .tc := ⟨.hbm, 422, rfl⟩
abbrev main_v245 : Ref sig .tc := ⟨.hbm, 423, rfl⟩
abbrev main_c_80 : Ref sig .tc := ⟨.hbm, 424, rfl⟩
abbrev main_v246 : Ref sig .tc := ⟨.hbm, 425, rfl⟩
abbrev main_v247 : Ref sig .tc := ⟨.hbm, 426, rfl⟩
abbrev main_v248 : Ref sig .tc := ⟨.hbm, 427, rfl⟩
abbrev main_v249 : Ref sig .tc := ⟨.hbm, 428, rfl⟩
abbrev main_v250 : Ref sig .tc := ⟨.hbm, 429, rfl⟩
abbrev main_v251 : Ref sig .tc := ⟨.hbm, 430, rfl⟩
abbrev main_v252 : Ref sig .tc := ⟨.hbm, 431, rfl⟩
abbrev main_cst_81 : Ref sig .tc := ⟨.hbm, 432, rfl⟩
abbrev main_call15_v0 : Ref sig .tc := ⟨.hbm, 433, rfl⟩
abbrev main_call15_v1 : Ref sig .tc := ⟨.hbm, 434, rfl⟩
abbrev main_call15_v2 : Ref sig .tc := ⟨.hbm, 435, rfl⟩
abbrev main_v253 : Ref sig .tc := ⟨.hbm, 436, rfl⟩
abbrev main_v254 : Ref sig .tc := ⟨.hbm, 437, rfl⟩
abbrev main_v255 : Ref sig .tc := ⟨.hbm, 438, rfl⟩
abbrev main_v256 : Ref sig .tc := ⟨.hbm, 439, rfl⟩
abbrev main_cst_82 : Ref sig .tc := ⟨.hbm, 440, rfl⟩
abbrev main_v257 : Ref sig .tc := ⟨.hbm, 441, rfl⟩
abbrev main_v258 : Ref sig .tc := ⟨.hbm, 442, rfl⟩
abbrev main_cst_83 : Ref sig .tc := ⟨.hbm, 443, rfl⟩
abbrev main_v259 : Ref sig .tc := ⟨.hbm, 444, rfl⟩
abbrev main_v260 : Ref sig .tc := ⟨.hbm, 445, rfl⟩
abbrev main_v261 : Ref sig .tc := ⟨.hbm, 446, rfl⟩
abbrev main_cst_84 : Ref sig .tc := ⟨.hbm, 447, rfl⟩
abbrev main_v262 : Ref sig .tc := ⟨.hbm, 448, rfl⟩
abbrev main_v263 : Ref sig .tc := ⟨.hbm, 449, rfl⟩
abbrev main_v264 : Ref sig .tc := ⟨.hbm, 450, rfl⟩
abbrev main_cst_85 : Ref sig .tc := ⟨.hbm, 451, rfl⟩
abbrev main_v265 : Ref sig .tc := ⟨.hbm, 452, rfl⟩
abbrev main_v266 : Ref sig .tc := ⟨.hbm, 453, rfl⟩
abbrev main_v267 : Ref sig .tc := ⟨.hbm, 454, rfl⟩
abbrev main_c_86 : Ref sig .tc := ⟨.hbm, 455, rfl⟩
abbrev main_c_87 : Ref sig .tc := ⟨.hbm, 456, rfl⟩
abbrev main_call16_v0 : Ref sig .tc := ⟨.hbm, 457, rfl⟩
abbrev main_call16_v1 : Ref sig .tc := ⟨.hbm, 458, rfl⟩
abbrev main_call16_v2 : Ref sig .tc := ⟨.hbm, 459, rfl⟩
abbrev main_call16_v3 : Ref sig .tc := ⟨.hbm, 460, rfl⟩
abbrev main_call16_v4 : Ref sig .tc := ⟨.hbm, 461, rfl⟩
abbrev main_v268 : Ref sig .tc := ⟨.hbm, 462, rfl⟩
abbrev main_v269 : Ref sig .tc := ⟨.hbm, 463, rfl⟩
abbrev main_c_88 : Ref sig .tc := ⟨.hbm, 464, rfl⟩
abbrev main_c_89 : Ref sig .tc := ⟨.hbm, 465, rfl⟩
abbrev main_call17_v0 : Ref sig .tc := ⟨.hbm, 466, rfl⟩
abbrev main_call17_v1 : Ref sig .tc := ⟨.hbm, 467, rfl⟩
abbrev main_call17_v2 : Ref sig .tc := ⟨.hbm, 468, rfl⟩
abbrev main_call17_v3 : Ref sig .tc := ⟨.hbm, 469, rfl⟩
abbrev main_call17_v4 : Ref sig .tc := ⟨.hbm, 470, rfl⟩
abbrev main_v270 : Ref sig .tc := ⟨.hbm, 471, rfl⟩
abbrev main_v271 : Ref sig .tc := ⟨.hbm, 472, rfl⟩
abbrev main_c_90 : Ref sig .tc := ⟨.hbm, 473, rfl⟩
abbrev main_v272 : Ref sig .tc := ⟨.hbm, 474, rfl⟩
abbrev main_v273 : Ref sig .tc := ⟨.hbm, 475, rfl⟩
abbrev main_c_91 : Ref sig .tc := ⟨.hbm, 476, rfl⟩
abbrev main_v274 : Ref sig .tc := ⟨.hbm, 477, rfl⟩
abbrev main_v275 : Ref sig .tc := ⟨.hbm, 478, rfl⟩
abbrev main_v276 : Ref sig .tc := ⟨.hbm, 479, rfl⟩
abbrev main_c_92 : Ref sig .tc := ⟨.hbm, 480, rfl⟩
abbrev main_v277 : Ref sig .tc := ⟨.hbm, 481, rfl⟩
abbrev main_v278 : Ref sig .tc := ⟨.hbm, 482, rfl⟩
abbrev main_c_93 : Ref sig .tc := ⟨.hbm, 483, rfl⟩
abbrev main_v279 : Ref sig .tc := ⟨.hbm, 484, rfl⟩
abbrev main_v280 : Ref sig .tc := ⟨.hbm, 485, rfl⟩
abbrev main_v281 : Ref sig .tc := ⟨.hbm, 486, rfl⟩
abbrev main_v282 : Ref sig .tc := ⟨.hbm, 487, rfl⟩
abbrev main_v283 : Ref sig .tc := ⟨.hbm, 488, rfl⟩
abbrev main_v284 : Ref sig .tc := ⟨.hbm, 489, rfl⟩
abbrev main_v285 : Ref sig .tc := ⟨.hbm, 490, rfl⟩
abbrev main_cst_94 : Ref sig .tc := ⟨.hbm, 491, rfl⟩
abbrev main_call18_v0 : Ref sig .tc := ⟨.hbm, 492, rfl⟩
abbrev main_call18_v1 : Ref sig .tc := ⟨.hbm, 493, rfl⟩
abbrev main_call18_v2 : Ref sig .tc := ⟨.hbm, 494, rfl⟩
abbrev main_v286 : Ref sig .tc := ⟨.hbm, 495, rfl⟩
abbrev main_v287 : Ref sig .tc := ⟨.hbm, 496, rfl⟩
abbrev main_v288 : Ref sig .tc := ⟨.hbm, 497, rfl⟩
abbrev main_v289 : Ref sig .tc := ⟨.hbm, 498, rfl⟩

abbrev nD : Nat := 1
abbrev τ : Topo := Topo.v7x

variable {F : FTy → Type} [FloatOps F]
-- ==== Proof.Pool.lean ====
/-
  The 5 x 5 maximum pool, in the kernel's spelling and in the reference's.
-/
module

public import proofs.«01_k».proof.Proof.Gen.KernelIdeal.Frame
public import proofs.«01_k».proof.Proof.Gen.ReferenceIdeal.Run
public import Idealize.ShloMosaic.Lib.Pipeline.Value
public import Idealize.ShloMosaic.Lib.ValueIdx
public import Idealize.ShloMosaic.Lib.IdealHost
public import Idealize.ShloMosaic.PureOps.Ideal.Laws

@[expose] public section

/-!
# The 5 x 5 maximum pool

The kernel pools a 512 x 512 tile in two passes (five shifted columns, then five shifted rows, each over a copy
padded with minus infinity); the reference takes the maximum over a 5 x 5 window. Over the extended reals both are
the least upper bound of the entries at most two rows and two columns away.
-/

namespace Cert.Nms

open Cert.KernelIdeal Cert.KernelIdeal.Gen Idealize.ShloMosaic Idealize.ShloMosaic.ValueIdx

variable {F : FTy → Type} [FloatOps F]

/-- A tile with two columns of minus infinity on either side. -/
noncomputable def padCols (x : FVec F S512x512 .f32) : FVec F S512x516 .f32 :=
  concatenate S512x516 1 [⟨S512x2, broadcast S512x2 (Scalar.ofBits .f32 0xFF800000#32)⟩, ⟨S512x512, x⟩,
    ⟨S512x2, broadcast S512x2 (Scalar.ofBits .f32 0xFF800000#32)⟩] concatenates_S512x2_S512x512_S512x2_S512x516_d1

/-- A tile with two rows of minus infinity above and below. -/
noncomputable def padRows (x : FVec F S512x512 .f32) : FVec F S516x512 .f32 :=
  concatenate S516x512 0 [⟨S2x512, broadcast S2x512 (Scalar.ofBits .f32 0xFF800000#32)⟩, ⟨S512x512, x⟩,
    ⟨S2x512, broadcast S2x512 (Scalar.ofBits .f32 0xFF800000#32)⟩] concatenates_S2x512_S512x512_S2x512_S516x512_d0

/-- The maximum of five neighbouring columns. -/
noncomputable def colMax (x : FVec F S512x512 .f32) : FVec F S512x512 .f32 :=
  maximumf (maximumf (maximumf (maximumf
    (extractStridedSlice S512x512 ![0, 0] (padCols x) slices_S512x516_o0_0_S512x512)
    (extractStridedSlice S512x512 ![0, 1] (padCols x) slices_S512x516_o0_1_S512x512))
    (extractStridedSlice S512x512 ![0, 2] (padCols x) slices_S512x516_o0_2_S512x512))
    (extractStridedSlice S512x512 ![0, 3] (padCols x) slices_S512x516_o0_3_S512x512))
    (extractStridedSlice S512x512 ![0, 4] (padCols x) slices_S512x516_o0_4_S512x512)

/-- The maximum of five neighbouring rows. -/
noncomputable def rowMax (x : FVec F S512x512 .f32) : FVec F S512x512 .f32 :=
  maximumf (maximumf (maximumf (maximumf
    (extractStridedSlice S512x512 ![0, 0] (padRows x) slices_S516x512_o0_0_S512x512)
    (extractStridedSlice S512x512 ![1, 0] (padRows x) slices_S516x512_o1_0_S512x512))
    (extractStridedSlice S512x512 ![2, 0] (padRows x) slices_S516x512_o2_0_S512x512))
    (extractStridedSlice S512x512 ![3, 0] (padRows x) slices_S516x512_o3_0_S512x512))
    (extractStridedSlice S512x512 ![4, 0] (padRows x) slices_S516x512_o4_0_S512x512)

/-- The kernel's pool: columns, then rows. -/
noncomputable def pool (x : FVec F S512x512 .f32) : FVec F S512x512 .f32 := rowMax (colMax x)

/-- The pattern `0xFF800000` is minus infinity, the bottom of the extended reals. -/
theorem ofBits_bot : (FloatOps.ofBits (F := Ideal) .f32 0xFF800000#32 : EReal) = ⊥ := by
  show Ideal.ofBits .f32 0xFF800000#32 = ⊥
  simp [Ideal.ofBits, Ideal.ieee]

/-- A padded column is below a bound exactly when the tile's column it shows (if any) is. -/
theorem padCols_le (x : FVec Ideal S512x512 .f32) (i : Fin 512) (m : Fin 516) (c : EReal) :
    (padCols x (ix2 i m) : EReal) ≤ c ↔ ∀ k : Fin 512, k.val + 2 = m.val → (x (ix2 i k) : EReal) ≤ c := by
  by_cases h1 : m.val < 2
  · have e : (padCols x (ix2 i m) : EReal) = ⊥ :=
      (concatenate_apply_piece 1 _ _ (ix2 i m) 0 (by show 0 < 3; decide) S512x2 _ rfl rfl 0 rfl (ix2 i ⟨m.val, h1⟩)
        (fun b hb => by fin_cases b <;> first | exact absurd rfl hb | rfl) (by show 0 + m.val = m.val; omega)).trans ofBits_bot
    rw [e]
    exact ⟨fun _ k hk => by omega, fun _ => bot_le⟩
  by_cases h2 : m.val < 514
  · have e : padCols x (ix2 i m) = x (ix2 i ⟨m.val - 2, by omega⟩) :=
      concatenate_apply_piece 1 _ _ (ix2 i m) 1 (by show 1 < 3; decide) S512x512 _ rfl rfl 2 rfl (ix2 i ⟨m.val - 2, by omega⟩)
        (fun b hb => by fin_cases b <;> first | exact absurd rfl hb | rfl) (by show 2 + (m.val - 2) = m.val; omega)
    rw [e]
    refine ⟨fun h k hk => ?_, fun h => h _ (by show m.val - 2 + 2 = m.val; omega)⟩
    rwa [show k = ⟨m.val - 2, by omega⟩ from Fin.ext (by show k.val = m.val - 2; omega)]
  · have e : (padCols x (ix2 i m) : EReal) = ⊥ :=
      (concatenate_apply_piece 1 _ _ (ix2 i m) 2 (by show 2 < 3; decide) S512x2 _ rfl rfl 514 rfl (ix2 i ⟨m.val - 514, by omega⟩)
        (fun b hb => by fin_cases b <;> first | exact absurd rfl hb | rfl)
        (by show 514 + (m.val - 514) = m.val; omega)).trans ofBits_bot
    rw [e]
    exact ⟨fun _ k hk => by omega, fun _ => bot_le⟩

/-- A padded row is below a bound exactly when the tile's row it shows (if any) is. -/
theorem padRows_le (x : FVec Ideal S512x512 .f32) (m : Fin 516) (j : Fin 512) (c : EReal) :
    (padRows x (ix2 m j) : EReal) ≤ c ↔ ∀ k : Fin 512, k.val + 2 = m.val → (x (ix2 k j) : EReal) ≤ c := by
  by_cases h1 : m.val < 2
  · have e : (padRows x (ix2 m j) : EReal) = ⊥ :=
      (concatenate_apply_piece 0 _ _ (ix2 m j) 0 (by show 0 < 3; decide) S2x512 _ rfl rfl 0 rfl (ix2 ⟨m.val, h1⟩ j)
        (fun b hb => by fin_cases b <;> first | exact absurd rfl hb | rfl) (by show 0 + m.val = m.val; omega)).trans ofBits_bot
    rw [e]
    exact ⟨fun _ k hk => by omega, fun _ => bot_le⟩
  by_cases h2 : m.val < 514
  · have e : padRows x (ix2 m j) = x (ix2 ⟨m.val - 2, by omega⟩ j) :=
      concatenate_apply_piece 0 _ _ (ix2 m j) 1 (by show 1 < 3; decide) S512x512 _ rfl rfl 2 rfl (ix2 ⟨m.val - 2, by omega⟩ j)
        (fun b hb => by fin_cases b <;> first | exact absurd rfl hb | rfl) (by show 2 + (m.val - 2) = m.val; omega)
    rw [e]
    refine ⟨fun h k hk => ?_, fun h => h _ (by show m.val - 2 + 2 = m.val; omega)⟩
    rwa [show k = ⟨m.val - 2, by omega⟩ from Fin.ext (by show k.val = m.val - 2; omega)]
  · have e : (padRows x (ix2 m j) : EReal) = ⊥ :=
      (concatenate_apply_piece 0 _ _ (ix2 m j) 2 (by show 2 < 3; decide) S2x512 _ rfl rfl 514 rfl (ix2 ⟨m.val - 514, by omega⟩ j)
        (fun b hb => by fin_cases b <;> first | exact absurd rfl hb | rfl)
        (by show 514 + (m.val - 514) = m.val; omega)).trans ofBits_bot
    rw [e]
    exact ⟨fun _ k hk => by omega, fun _ => bot_le⟩

/-- The maximum of five values is below a bound exactly when each of the five is. -/
theorem max5_le (a b c d e z : EReal) :
    max (max (max (max a b) c) d) e ≤ z ↔ a ≤ z ∧ b ≤ z ∧ c ≤ z ∧ d ≤ z ∧ e ≤ z := by
  simp only [max_le_iff, and_assoc]

/-- Five consecutive shifts reach exactly the positions at most two away. -/
theorem five_shifts (P : Fin 512 → Prop) (j : Fin 512) :
    ((∀ k : Fin 512, k.val + 2 = 0 + j.val → P k) ∧ (∀ k : Fin 512, k.val + 2 = 1 + j.val → P k) ∧
      (∀ k : Fin 512, k.val + 2 = 2 + j.val → P k) ∧ (∀ k : Fin 512, k.val + 2 = 3 + j.val → P k) ∧
      (∀ k : Fin 512, k.val + 2 = 4 + j.val → P k)) ↔
    ∀ k : Fin 512, j.val ≤ k.val + 2 → k.val ≤ j.val + 2 → P k := by
  constructor
  · rintro ⟨h0, h1, h2, h3, h4⟩ k ha hb
    have : k.val + 2 = 0 + j.val ∨ k.val + 2 = 1 + j.val ∨ k.val + 2 = 2 + j.val ∨ k.val + 2 = 3 + j.val ∨
      k.val + 2 = 4 + j.val := by omega
    rcases this with h | h | h | h | h
    exacts [h0 k h, h1 k h, h2 k h, h3 k h, h4 k h]
  · intro h
    refine ⟨?_, ?_, ?_, ?_, ?_⟩ <;> exact fun k hk => h k (by omega) (by omega)

/-- The maximum over columns is below a bound exactly when the entries at most two columns away are. -/
theorem colMax_le (x : FVec Ideal S512x512 .f32) (i j : Fin 512) (c : EReal) :
    (colMax x (ix2 i j) : EReal) ≤ c ↔
      ∀ k : Fin 512, j.val ≤ k.val + 2 → k.val ≤ j.val + 2 → (x (ix2 i k) : EReal) ≤ c := by
  have e : ∀ (o : Nat) (ho : o < 5) (h : S512x516.Slices ![0, o] S512x512),
      extractStridedSlice S512x512 ![0, o] (padCols x) h (ix2 i j) = padCols x (ix2 i ⟨o + j.val, by omega⟩) :=
    fun o ho h => extractStridedSlice_apply _ _ _ _ _ fun a => by
      fin_cases a
      · show i.val = 0 + i.val; omega
      · rfl
  refine Iff.trans ?_ (five_shifts (fun k => (x (ix2 i k) : EReal) ≤ c) j)
  unfold colMax
  refine (max5_le _ _ _ _ _ c).trans ?_
  rw [e 0, e 1, e 2, e 3, e 4] <;> first | omega | simp only [padCols_le]

/-- The maximum over rows is below a bound exactly when the entries at most two rows away are. -/
theorem rowMax_le (x : FVec Ideal S512x512 .f32) (i j : Fin 512) (c : EReal) :
    (rowMax x (ix2 i j) : EReal) ≤ c ↔
      ∀ k : Fin 512, i.val ≤ k.val + 2 → k.val ≤ i.val + 2 → (x (ix2 k j) : EReal) ≤ c := by
  have e : ∀ (o : Nat) (ho : o < 5) (h : S516x512.Slices ![o, 0] S512x512),
      extractStridedSlice S512x512 ![o, 0] (padRows x) h (ix2 i j) = padRows x (ix2 ⟨o + i.val, by omega⟩ j) :=
    fun o ho h => extractStridedSlice_apply _ _ _ _ _ fun a => by
      fin_cases a
      · rfl
      · show j.val = 0 + j.val; omega
  refine Iff.trans ?_ (five_shifts (fun k => (x (ix2 k j) : EReal) ≤ c) i)
  unfold rowMax
  refine (max5_le _ _ _ _ _ c).trans ?_
  rw [e 0, e 1, e 2, e 3, e 4] <;> first | omega | simp only [padRows_le]

/-- The kernel's pool is below a bound exactly when all entries of the 5 x 5 neighbourhood are. -/
theorem pool_le (x : FVec Ideal S512x512 .f32) (i j : Fin 512) (c : EReal) :
    (pool x (ix2 i j) : EReal) ≤ c ↔ ∀ k l : Fin 512, i.val ≤ k.val + 2 → k.val ≤ i.val + 2 →
      j.val ≤ l.val + 2 → l.val ≤ j.val + 2 → (x (ix2 k l) : EReal) ≤ c := by
  unfold pool
  rw [rowMax_le]
  simp only [colMax_le]
  exact ⟨fun h k l a b c d => h k a b l c d, fun h k a b l c d => h k l a b c d⟩

/-- A running maximum is below a bound exactly when its start and all its terms are. -/
theorem foldMax_le {ι : Type} (g : ι → EReal) (L : List ι) (v c : EReal) :
    L.foldl (fun r n => max r (g n)) v ≤ c ↔ v ≤ c ∧ ∀ n ∈ L, g n ≤ c := by
  induction L generalizing v with
  | nil => simp
  | cons n L ih => simp only [List.foldl_cons, ih, max_le_iff, List.forall_mem_cons, and_assoc]

/-- The reference's pool of a batch of tiles: the maximum over a 5 x 5 window. -/
noncomputable def windowMax (x : FVec F ReferenceIdeal.S4x1x512x512 .f32) : FVec F ReferenceIdeal.S4x1x512x512 .f32 :=
  Host.reduceWindow FloatOps.maximumf ![1, 1, 5, 5] ![1, 1, 1, 1] ![0, 0, 2, 2] ![0, 0, 2, 2] x
    (broadcastInDim ReferenceIdeal.S_ ![] ReferenceIdeal.Gen.bcast_S_S_ (constant ReferenceIdeal.S_ .f32 0xFF800000#32))
    ReferenceIdeal.Gen.reduceWindows_S4x1x512x512_S4x1x512x512_w1s1p0_0_w1s1p0_0_w5s1p2_2_w5s1p2_2
    ReferenceIdeal.Gen.h_S_

/-- The reference's pool is below a bound exactly when all entries of the 5 x 5 neighbourhood are. -/
theorem windowMax_le (x : FVec Ideal ReferenceIdeal.S4x1x512x512 .f32) (b : Fin 4) (i j : Fin 512) (c : EReal) :
    (windowMax x (ix4 b 0 i j) : EReal) ≤ c ↔ ∀ k l : Fin 512, i.val ≤ k.val + 2 → k.val ≤ i.val + 2 →
      j.val ≤ l.val + 2 → l.val ≤ j.val + 2 → (x (ix4 b 0 k l) : EReal) ≤ c := by
  unfold windowMax Host.reduceWindow
  refine (foldMax_le _ _ _ c).trans ?_
  rw [show ((broadcastInDim ReferenceIdeal.S_ ![] ReferenceIdeal.Gen.bcast_S_S_
    (constant (F := Ideal) ReferenceIdeal.S_ .f32 0xFF800000#32)) (Shape.Idx.first ReferenceIdeal.Gen.h_S_) : EReal) = ⊥
    from ofBits_bot]
  simp only [bot_le, true_and, List.mem_finRange, true_imp_iff]
  constructor
  · intro h k l h1 h2 h3 h4
    have := h ((⟨4, ![1, 1, 5, 5]⟩ : Shape).rowMajor (ix4 0 0 ⟨k.val + 2 - i.val, by omega⟩ ⟨l.val + 2 - j.val, by omega⟩))
    simp only [Equiv.symm_apply_apply] at this
    rw [dif_pos] at this
    · refine le_of_eq_of_le (congrArg x (funext fun a => Fin.ext ?_)) this
      fin_cases a
      · show b.val = b.val * 1 + 0 - 0; omega
      · rfl
      · show k.val = i.val * 1 + (k.val + 2 - i.val) - 2; omega
      · show l.val = j.val * 1 + (l.val + 2 - j.val) - 2; omega
    · intro a
      fin_cases a
      · show 0 ≤ b.val * 1 + 0 ∧ b.val * 1 + 0 - 0 < 4; omega
      · show 0 ≤ 0 * 1 + 0 ∧ 0 * 1 + 0 - 0 < 1; omega
      · show 2 ≤ i.val * 1 + (k.val + 2 - i.val) ∧ i.val * 1 + (k.val + 2 - i.val) - 2 < 512; omega
      · show 2 ≤ j.val * 1 + (l.val + 2 - j.val) ∧ j.val * 1 + (l.val + 2 - j.val) - 2 < 512; omega
  · intro h n
    obtain ⟨w, rfl⟩ := (⟨4, ![1, 1, 5, 5]⟩ : Shape).rowMajor.surjective n
    simp only [Equiv.symm_apply_apply]
    split
    · rename_i hin
      have w0 : (w 0).val < 1 := (w 0).isLt
      have w2 : (w 2).val < 5 := (w 2).isLt
      have w3 : (w 3).val < 5 := (w 3).isLt
      have h2 : 2 ≤ i.val * 1 + (w 2).val ∧ i.val * 1 + (w 2).val - 2 < 512 := hin 2
      have h3 : 2 ≤ j.val * 1 + (w 3).val ∧ j.val * 1 + (w 3).val - 2 < 512 := hin 3
      refine le_of_eq_of_le (congrArg x (funext fun a => Fin.ext ?_))
        (h ⟨i.val * 1 + (w 2).val - 2, h2.2⟩ ⟨j.val * 1 + (w 3).val - 2, h3.2⟩ (by show i.val ≤ _ - 2 + 2; omega)
          (by show _ - 2 ≤ _; omega) (by show j.val ≤ _ - 2 + 2; omega) (by show _ - 2 ≤ _; omega))
      fin_cases a
      · show b.val * 1 + (w 0).val - 0 = b.val; omega
      · have w1 : (w 1).val < 1 := (w 1).isLt
        show 0 * 1 + (w 1).val - 0 = 0; omega
      · rfl
      · rfl
    · exact bot_le

/-- Tile `b` of a batch of one-channel tiles. -/
def tile {α : Type} (b : Fin 4) (x : ReferenceIdeal.S4x1x512x512.Idx → α) : S512x512.Idx → α :=
  fun i => x (ix4 b 0 (i 0) (i 1))

/-- **The two pools agree** tile by tile. -/
theorem tile_windowMax (b : Fin 4) (x : FVec Ideal ReferenceIdeal.S4x1x512x512 .f32) :
    tile b (windowMax x) = pool (F := Ideal) (tile b x) := by
  funext i
  rw [eq_ix2 i]
  refine eq_of_forall_ge_iff (α := EReal) fun c => ?_
  exact (windowMax_le x b (i 0) (i 1) c).trans (pool_le (tile b x) (i 0) (i 1) c).symm

end Cert.Nms
-- ==== Proof.Border.lean ====
/-
  The reference's border: ones, with two rows or columns of zeros written at each edge.
-/
module

public import proofs.«01_k».proof.Proof.Pool

@[expose] public section

namespace Cert.Nms

open Cert.ReferenceIdeal Cert.ReferenceIdeal.Gen Idealize.ShloMosaic Idealize.ShloMosaic.ValueIdx

/-- Writing one value over a window: an entry is that value when some update lands on it, and as before otherwise. -/
theorem scatter_const {α : Type} {s si u : Shape} {w : Nat} (d : ScatterDims s si u) (x : s.Idx → α) (idx : IVec si w) (c : α)
    (i : s.Idx) [Decidable (∃ j : u.Idx, d.resultIdx? j idx = some i)] :
    Host.scatter d (fun _ b => b) x idx (fun _ => c) i = if ∃ j : u.Idx, d.resultIdx? j idx = some i then c else x i := by
  classical
  have key : ∀ (L : List (Fin u.numel)) (x : s.Idx → α),
      L.foldl (fun r n => match d.resultIdx? (u.rowMajor.symm n) idx with
        | some k => fun i' => if i' = k then c else r i'
        | none => r) x i = if ∃ n ∈ L, d.resultIdx? (u.rowMajor.symm n) idx = some i then c else x i := by
    intro L
    induction L with
    | nil => intro x; simp
    | cons n L ih =>
      intro x
      rw [List.foldl_cons, ih]
      by_cases hL : ∃ n ∈ L, d.resultIdx? (u.rowMajor.symm n) idx = some i
      · rw [if_pos hL, if_pos (by obtain ⟨k, hk, e⟩ := hL; exact ⟨k, List.mem_cons_of_mem _ hk, e⟩)]
      · rw [if_neg hL]
        cases hr : d.resultIdx? (u.rowMajor.symm n) idx with
        | none =>
          rw [if_neg]
          rintro ⟨k, hk, e⟩
          rcases List.mem_cons.mp hk with rfl | hk
          · rw [hr] at e; cases e
          · exact hL ⟨k, hk, e⟩
        | some k =>
          by_cases hi : i = k
          · subst hi
            rw [if_pos ⟨n, List.mem_cons_self, hr⟩]
            simp
          · rw [if_neg]
            · simp [hi]
            · rintro ⟨k', hk, e⟩
              rcases List.mem_cons.mp hk with rfl | hk
              · rw [hr] at e; cases e; exact hi rfl
              · exact hL ⟨k', hk, e⟩
  refine (key (List.finRange u.numel) x).trans ?_
  refine if_congr ?_ rfl rfl
  exact ⟨fun ⟨n, _, e⟩ => ⟨_, e⟩, fun ⟨j, e⟩ => ⟨u.rowMajor j, List.mem_finRange _, by rw [Equiv.symm_apply_apply]; exact e⟩⟩

/-- Two rows written at row `o`. -/
theorem rows_hit (o : BitVec 32) (ho : 0 ≤ o.toInt) (ho' : o.toInt ≤ 510) (i j : Fin 512) :
    (∃ k, scatter_S512x512_S1_S2x512_01_n_0_0.resultIdx? k (fun _ => o) = some (ix2 i j)) ↔
      o.toInt ≤ i.val ∧ (i.val : Int) < o.toInt + 2 := by
  have s0 : ∀ k, scatter_S512x512_S1_S2x512_01_n_0_0.start k (fun _ => o) 0 = o.toInt := fun k => rfl
  have s1 : ∀ k, scatter_S512x512_S1_S2x512_01_n_0_0.start k (fun _ => o) 1 = 0 := fun k => rfl
  have w0 : ∀ k, scatter_S512x512_S1_S2x512_01_n_0_0.window k 0 = (k 0).val := fun k => rfl
  have w1 : ∀ k, scatter_S512x512_S1_S2x512_01_n_0_0.window k 1 = (k 1).val := fun k => rfl
  constructor
  · rintro ⟨k, e⟩
    unfold ScatterDims.resultIdx? at e
    split at e
    · have e0 := congrArg Fin.val (congrFun (Option.some.inj e) 0)
      have : (o.toInt + ((k 0).val : Int)).toNat = i.val := e0
      have : (k 0).val < 2 := (k 0).isLt
      omega
    · cases e
  · rintro ⟨h1, h2⟩
    refine ⟨ix2 (⟨(i.val - o.toInt).toNat, by omega⟩ : Fin 2) (⟨j.val, j.isLt⟩ : Fin 512), ?_⟩
    unfold ScatterDims.resultIdx?
    rw [dif_pos]
    · refine congrArg some (funext fun a => Fin.ext ?_)
      fin_cases a
      · show (o.toInt + (((i.val - o.toInt).toNat : Nat) : Int)).toNat = i.val; omega
      · show ((0 : Int) + (j.val : Int)).toNat = j.val; omega
    · intro a
      fin_cases a
      · show 0 ≤ o.toInt + (((i.val - o.toInt).toNat : Nat) : Int) ∧ o.toInt + (((i.val - o.toInt).toNat : Nat) : Int) < (512 : Nat)
        omega
      · show 0 ≤ (0 : Int) + (j.val : Int) ∧ (0 : Int) + (j.val : Int) < (512 : Nat)
        omega

/-- Two columns written at column `o`. -/
theorem cols_hit (o : BitVec 32) (ho : 0 ≤ o.toInt) (ho' : o.toInt ≤ 510) (i j : Fin 512) :
    (∃ k, scatter_S512x512_S1_S512x2_01_n_1_0.resultIdx? k (fun _ => o) = some (ix2 i j)) ↔
      o.toInt ≤ j.val ∧ (j.val : Int) < o.toInt + 2 := by
  constructor
  · rintro ⟨k, e⟩
    unfold ScatterDims.resultIdx? at e
    split at e
    · have e0 := congrArg Fin.val (congrFun (Option.some.inj e) 1)
      have : (o.toInt + ((k 1).val : Int)).toNat = j.val := e0
      have : (k 1).val < 2 := (k 1).isLt
      omega
    · cases e
  · rintro ⟨h1, h2⟩
    refine ⟨ix2 (⟨i.val, i.isLt⟩ : Fin 512) (⟨(j.val - o.toInt).toNat, by omega⟩ : Fin 2), ?_⟩
    unfold ScatterDims.resultIdx?
    rw [dif_pos]
    · refine congrArg some (funext fun a => Fin.ext ?_)
      fin_cases a
      · show ((0 : Int) + (i.val : Int)).toNat = i.val; omega
      · show (o.toInt + (((j.val - o.toInt).toNat : Nat) : Int)).toNat = j.val; omega
    · intro a
      fin_cases a
      · show 0 ≤ (0 : Int) + (i.val : Int) ∧ (0 : Int) + (i.val : Int) < (512 : Nat)
        omega
      · show 0 ≤ o.toInt + (((j.val - o.toInt).toNat : Nat) : Int) ∧ o.toInt + (((j.val - o.toInt).toNat : Nat) : Int) < (512 : Nat)
        omega

/-- The reference's border array: ones, then zeros written over the first rows, the first columns, the last rows and the
    last columns. -/
noncomputable def border {F : FTy → Type} [FloatOps F] : FVec F S512x512 .f32 :=
  Host.scatter scatter_S512x512_S1_S512x2_01_n_1_0 (fun _ b => b)
    (Host.scatter scatter_S512x512_S1_S2x512_01_n_0_0 (fun _ b => b)
      (Host.scatter scatter_S512x512_S1_S512x2_01_n_1_0 (fun _ b => b)
        (Host.scatter scatter_S512x512_S1_S2x512_01_n_0_0 (fun _ b => b)
          (broadcastInDim S512x512 ![] bcast_S_S512x512 (constant S_ .f32 0x3F800000#32))
          (broadcastInDim S1 ![] bcast_S_S1 (constantI S_ 32 0#32)) (broadcastInDim S2x512 ![] bcast_S_S2x512 (constant S_ .f32 0x00000000#32)))
        (broadcastInDim S1 ![] bcast_S_S1 (constantI S_ 32 0#32)) (broadcastInDim S512x2 ![] bcast_S_S512x2 (constant S_ .f32 0x00000000#32)))
      (broadcastInDim S1 ![] bcast_S_S1 (constantI S_ 32 510#32)) (broadcastInDim S2x512 ![] bcast_S_S2x512 (constant S_ .f32 0x00000000#32)))
    (broadcastInDim S1 ![] bcast_S_S1 (constantI S_ 32 510#32)) (broadcastInDim S512x2 ![] bcast_S_S512x2 (constant S_ .f32 0x00000000#32))

/-- The border is one inside and zero on the two outermost rows and columns. -/
theorem border_apply (i j : Fin 512) :
    (border (F := Ideal) (ix2 i j) : EReal) = if 2 ≤ i.val ∧ i.val < 510 ∧ 2 ≤ j.val ∧ j.val < 510 then 1 else 0 := by
  classical
  have t0 : (0#32 : BitVec 32).toInt = 0 := by decide
  have t1 : (510#32 : BitVec 32).toInt = 510 := by decide
  have z : (FloatOps.ofBits (F := Ideal) .f32 0x00000000#32 : EReal) = 0 := Ideal.ofBits_zero_f32
  have o : (FloatOps.ofBits (F := Ideal) .f32 0x3F800000#32 : EReal) = 1 := Ideal.ofBits_one_f32
  have e : (border (F := Ideal) (ix2 i j) : EReal) =
      if (510#32 : BitVec 32).toInt ≤ j.val ∧ (j.val : Int) < (510#32 : BitVec 32).toInt + 2 then 0 else
      if (510#32 : BitVec 32).toInt ≤ i.val ∧ (i.val : Int) < (510#32 : BitVec 32).toInt + 2 then 0 else
      if (0#32 : BitVec 32).toInt ≤ j.val ∧ (j.val : Int) < (0#32 : BitVec 32).toInt + 2 then 0 else
      if (0#32 : BitVec 32).toInt ≤ i.val ∧ (i.val : Int) < (0#32 : BitVec 32).toInt + 2 then 0 else 1 := by
    unfold border
    refine (scatter_const _ _ (fun _ => 510#32) (FloatOps.ofBits (F := Ideal) .f32 0x00000000#32) _).trans
      (if_congr (cols_hit _ (by decide) (by decide) i j) z ?_)
    refine (scatter_const _ _ (fun _ => 510#32) (FloatOps.ofBits (F := Ideal) .f32 0x00000000#32) _).trans
      (if_congr (rows_hit _ (by decide) (by decide) i j) z ?_)
    refine (scatter_const _ _ (fun _ => 0#32) (FloatOps.ofBits (F := Ideal) .f32 0x00000000#32) _).trans
      (if_congr (cols_hit _ (by decide) (by decide) i j) z ?_)
    exact (scatter_const _ _ (fun _ => 0#32) (FloatOps.ofBits (F := Ideal) .f32 0x00000000#32) _).trans
      (if_congr (rows_hit _ (by decide) (by decide) i j) z o)
  rw [e, t0, t1]
  split_ifs <;> first | rfl | omega

end Cert.Nms
-- ==== Proof.Nms.lean ====
/-
  The suppressed scores of one tile: the kernel's and the reference's.
-/
module

public import proofs.«01_k».proof.Proof.Border

@[expose] public section

namespace Cert.Nms

open Cert.KernelIdeal Cert.KernelIdeal.Gen Idealize.ShloMosaic Idealize.ShloMosaic.ValueIdx

variable {F : FTy → Type} [FloatOps F]

/-- A tile of zeros. -/
noncomputable def zeros : FVec F S512x512 .f32 := broadcast S512x512 (Scalar.ofBits .f32 0x00000000#32)

/-- One round of the kernel: suppress the neighbourhood of the maxima found so far, and add the maxima of what is left. -/
noncomputable def suppress (x : FVec F S512x512 .f32) (m : IVec S512x512 1) : IVec S512x512 1 :=
  ori m (andi
    (cmpf .oeq (select (cmpf .ogt (pool (sitofp (F := F) .f32 (extui 32 m natLt_1_32))) (zeros (F := F))) (zeros (F := F)) x)
      (pool (select (cmpf .ogt (pool (sitofp (F := F) .f32 (extui 32 m natLt_1_32))) (zeros (F := F))) (zeros (F := F)) x)))
    (xori (cmpf .ogt (pool (sitofp (F := F) .f32 (extui 32 m natLt_1_32))) (zeros (F := F))) (constantI S512x512 1 1#1)))

/-- The positions at least two away from every edge. -/
def inner : IVec S512x512 1 :=
  andi (andi (andi (cmpi .sge (iota .tc S512x512 32 [0] iota_S512x512_d0_w32) (broadcast S512x512 2#32))
    (cmpi .slt (iota .tc S512x512 32 [0] iota_S512x512_d0_w32) (broadcast S512x512 510#32)))
    (cmpi .sge (iota .tc S512x512 32 [1] iota_S512x512_d1_w32) (broadcast S512x512 2#32)))
    (cmpi .slt (iota .tc S512x512 32 [1] iota_S512x512_d1_w32) (broadcast S512x512 510#32))

/-- The kernel's suppressed scores of one tile. -/
noncomputable def nms (x : FVec F S512x512 .f32) : FVec F S512x512 .f32 :=
  select inner (select (suppress x (suppress x (cmpf .oeq x (pool x)))) x zeros) zeros

/-- What the kernel's body stores is the suppressed scores of the tile it loads. -/
theorem payload_eq (v : Vec F S1x1x512x512 .f32) :
    k0_pay7 (k0_pay1 v) k0_pay3 (k0_pay5 (k0_pay1 v) (k0_pay2 v) k0_pay3 (k0_pay4 v))
      (k0_pay6 (k0_pay1 v) (k0_pay2 v) k0_pay3 (k0_pay4 v)) (Scalar.ofBits .f32 0x00000000#32)
    = shapeCast S1x512x512 (nms (shapeCast S512x512 v shapeCasts_S1x1x512x512_S512x512)) shapeCasts_S512x512_S1x512x512 := rfl

/-- A batch of zeros. -/
noncomputable def zeros4 : FVec F ReferenceIdeal.S4x1x512x512 .f32 :=
  broadcastInDim ReferenceIdeal.S4x1x512x512 ![] ReferenceIdeal.Gen.bcast_S_S4x1x512x512 (constant ReferenceIdeal.S_ .f32 0x00000000#32)

/-- One round of the reference. -/
noncomputable def suppress4 (x : FVec F ReferenceIdeal.S4x1x512x512 .f32) (m : IVec ReferenceIdeal.S4x1x512x512 1) :
    IVec ReferenceIdeal.S4x1x512x512 1 :=
  ori m (andi
    (cmpf .oeq (select (cmpf .ogt (windowMax (uitofp (F := F) .f32 m)) (zeros4 (F := F))) (zeros4 (F := F)) x)
      (windowMax (select (cmpf .ogt (windowMax (uitofp (F := F) .f32 m)) (zeros4 (F := F))) (zeros4 (F := F)) x)))
    (noti (cmpf .ogt (windowMax (uitofp (F := F) .f32 m)) (zeros4 (F := F)))))

/-- The reference's scores after two rounds, before the border is removed. -/
noncomputable def kept4 (x : FVec F ReferenceIdeal.S4x1x512x512 .f32) : FVec F ReferenceIdeal.S4x1x512x512 .f32 :=
  select (suppress4 x (suppress4 x (cmpf .oeq x (windowMax x)))) x zeros4

/-- The reference's removal of the border: one tile of zeros and ones, spread over the batch and multiplied in. -/
noncomputable def bordered (x : FVec F ReferenceIdeal.S4x1x512x512 .f32) (B : FVec F ReferenceIdeal.S512x512 .f32) :
    FVec F ReferenceIdeal.S4x1x512x512 .f32 :=
  mulf x (broadcastInDim ReferenceIdeal.S4x1x512x512 ![0, 1, 2, 3] ReferenceIdeal.Gen.bcast_S1x1x512x512_S4x1x512x512_0_1_2_3
    (broadcastInDim ReferenceIdeal.S1x1x512x512 ![2, 3] ReferenceIdeal.Gen.bcast_S512x512_S1x1x512x512_2_3 B))

/-- A mask read as floats: the same number whether it goes through a signed word or not. -/
theorem maskFloat (m : IVec S512x512 1) :
    sitofp (F := Ideal) .f32 (extui 32 m natLt_1_32) = uitofp (F := Ideal) .f32 m := by
  funext i
  have h : ∀ b : BitVec 1, ((b.setWidth 32).toInt : ℝ) = (b.toNat : ℝ) := by
    intro b
    have : (b.setWidth 32).toInt = (b.toNat : Int) := by revert b; decide
    rw [this]; norm_cast
  exact congrArg Real.toEReal (h (m i))

/-- Flipping one bit by exclusive or with one. -/
theorem flip_eq (m : IVec S512x512 1) : xori m (constantI S512x512 1 1#1) = noti m := by
  funext i
  have h : ∀ b : BitVec 1, b ^^^ 1#1 = ~~~ b := by decide
  exact h (m i)

/-- One round agrees tile by tile. -/
theorem tile_suppress (b : Fin 4) (x : FVec Ideal ReferenceIdeal.S4x1x512x512 .f32) (m : IVec ReferenceIdeal.S4x1x512x512 1) :
    tile b (suppress4 x m) = suppress (F := Ideal) (tile b x) (tile b m) := by
  unfold suppress
  rw [maskFloat, flip_eq]
  have e1 : pool (F := Ideal) (uitofp .f32 (tile b m)) = tile b (windowMax (uitofp (F := Ideal) .f32 m)) :=
    (tile_windowMax b (uitofp (F := Ideal) .f32 m)).symm
  rw [e1]
  have e2 : select (cmpf .ogt (tile b (windowMax (uitofp (F := Ideal) .f32 m))) (zeros (F := Ideal))) (zeros (F := Ideal)) (tile b x)
      = tile b (select (cmpf .ogt (windowMax (uitofp (F := Ideal) .f32 m)) (zeros4 (F := Ideal))) zeros4 x) := rfl
  rw [e2, ← tile_windowMax]
  rfl

/-- The mask of inner positions, spelt out. -/
theorem inner_apply (i j : Fin 512) :
    inner (ix2 i j) = BitVec.ofBool (decide (2 ≤ i.val ∧ i.val < 510 ∧ 2 ≤ j.val ∧ j.val < 510)) := by
  have h1 : ∀ n : Fin 512, IntOp.cmpi .sge (BitVec.ofNat 32 (0 * 512 + n.val)) 2#32 = BitVec.ofBool (decide (2 ≤ n.val)) := by decide +kernel
  have h2 : ∀ n : Fin 512, IntOp.cmpi .slt (BitVec.ofNat 32 (0 * 512 + n.val)) 510#32 = BitVec.ofBool (decide (n.val < 510)) := by decide +kernel
  have e : inner (ix2 i j) = IntOp.andi (IntOp.andi (IntOp.andi
      (IntOp.cmpi .sge (BitVec.ofNat 32 (0 * 512 + i.val)) 2#32) (IntOp.cmpi .slt (BitVec.ofNat 32 (0 * 512 + i.val)) 510#32))
      (IntOp.cmpi .sge (BitVec.ofNat 32 (0 * 512 + j.val)) 2#32)) (IntOp.cmpi .slt (BitVec.ofNat 32 (0 * 512 + j.val)) 510#32) := rfl
  rw [e, h1, h2, h1, h2]
  simp only [Bool.decide_and]
  generalize decide (2 ≤ i.val) = a
  generalize decide (i.val < 510) = b
  generalize decide (2 ≤ j.val) = c
  generalize decide (j.val < 510) = d
  revert a b c d
  decide

/-- **The suppressed scores agree**: a tile of the reference's scores times the border is what the kernel computes of it. -/
theorem tile_nms (b : Fin 4) (x : FVec Ideal ReferenceIdeal.S4x1x512x512 .f32) (B : FVec Ideal ReferenceIdeal.S4x1x512x512 .f32)
    (hB : ∀ i j : Fin 512, (B (ix4 b 0 i j) : EReal) = border (F := Ideal) (ix2 i j)) :
    tile b (mulf (kept4 x) B) = nms (F := Ideal) (tile b x) := by
  have hk : tile b (kept4 x) = select (suppress (F := Ideal) (tile b x) (suppress (F := Ideal) (tile b x) (cmpf .oeq (tile b x) (pool (F := Ideal) (tile b x))))) (tile b x) zeros := by
    rw [← tile_windowMax]
    have e : cmpf .oeq (tile b x) (tile b (windowMax x)) = tile b (cmpf (F := Ideal) .oeq x (windowMax x)) := rfl
    rw [e, ← tile_suppress, ← tile_suppress]
    rfl
  unfold nms
  rw [← hk]
  have key : ∀ i j : Fin 512, (kept4 x (ix4 b 0 i j) : EReal) * B (ix4 b 0 i j) =
      Scalar.select (inner (ix2 i j)) (kept4 x (ix4 b 0 i j) : EReal) (zeros (F := Ideal) (ix2 i j)) := by
    intro i j
    have h0 : (zeros (F := Ideal) (ix2 i j) : EReal) = 0 := Ideal.ofBits_zero_f32
    rw [hB, border_apply, inner_apply, h0]
    split
    · rename_i h
      rw [decide_eq_true h, mul_one]; rfl
    · rename_i h
      rw [decide_eq_false h, mul_zero]; rfl
  funext p
  rw [eq_ix2 p]
  exact key (p 0) (p 1)

end Cert.Nms
-- ==== Proof.Region.lean ====
/-
  The kernel's region: what the array of suppressed scores holds when its four grid points have run.
-/
module

public import proofs.«01_k».proof.Proof.Nms

@[expose] public section

namespace Cert.Nms

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ)

/-- The suppressed scores of a batch: each image's tile on its own. -/
noncomputable def scores (x : FVec F S4x1x512x512 .f32) : FVec F S4x512x512 .f32 :=
  fun i => nms (tile (i 0) x) (ix2 (i 1) (i 2))

/-- Four zero offsets. -/
theorem zeros_four : (![0, 0, 0, 0] : Fin 4 → Nat) = fun _ => 0 := funext fun a => by fin_cases a <;> rfl
/-- Three zero offsets. -/
theorem zeros_three : (![0, 0, 0] : Fin 3 → Nat) = fun _ => 0 := funext fun a => by fin_cases a <;> rfl

/-- The image that grid point `t` works on. -/
def image (t : Fin cfg0.N) : Fin 4 := ⟨t.val, lt_of_lt_of_eq t.isLt N_0⟩

/-- The tile that point `t` loads is image `t` of the argument. -/
theorem loaded (c : Dev nD) (t : Fin cfg0.N) : shapeCast S512x512 (iblk m c 0 t : Vec F S1x1x512x512 .f32) shapeCasts_S1x1x512x512_S512x512
    = tile (image t) (m ((c : Thread nD τ).loc main_arg0) : FVec F S4x1x512x512 .f32) := by
  have h : ∀ i j : Fin 512, shapeCast S512x512 (iblk m c 0 t : Vec F S1x1x512x512 .f32) shapeCasts_S1x1x512x512_S512x512 (ix2 i j)
      = (m ((c : Thread nD τ).loc main_arg0) : FVec F S4x1x512x512 .f32) (ix4 (image t) 0 i j) := by
    intro i j
    refine (shapeCast_apply _ _ _ (ix4 (0 : Fin 1) (0 : Fin 1) i j) ?_).trans ?_
    · rw [Shape.rowMajor_val_four, Shape.rowMajor_val_two]
      show ((0 * 1 + 0) * 512 + i.val) * 512 + j.val = i.val * 512 + j.val
      omega
    · unfold iblk
      show V m c main_arg0 _ = _
      rw [V_main_arg0]
      refine congrArg (m ((c : Thread nD τ).loc main_arg0)) ?_
      have e : win0_0.index t 0 * win0_0.size 0 = t.val ∧ win0_0.index t 1 * win0_0.size 1 = 0
          ∧ win0_0.index t 2 * win0_0.size 2 = 0 ∧ win0_0.index t 3 * win0_0.size 3 = 0 := by
        rcases fin_N0 t with rfl | rfl | rfl | rfl <;> decide +kernel
      obtain ⟨e0, e1, e2, e3⟩ := e
      funext a
      refine Fin.ext ?_
      match a with
      | ⟨0, _⟩ => show win0_0.index t 0 * win0_0.size 0 + 1 * 0 = t.val
                  omega
      | ⟨1, _⟩ => show win0_0.index t 1 * win0_0.size 1 + 1 * 0 = 0
                  omega
      | ⟨2, _⟩ => show win0_0.index t 2 * win0_0.size 2 + 1 * i.val = i.val
                  omega
      | ⟨3, _⟩ => show win0_0.index t 3 * win0_0.size 3 + 1 * j.val = j.val
                  omega
  funext p
  rw [eq_ix2 p]
  exact h (p 0) (p 1)

/-- What point `t` writes back is its block of the batch's suppressed scores. -/
theorem flushed_eq (c : Dev nD) (t : Fin cfg0.N) : (dats m 0 c).flushed 1 t
    = (win0_1.blk t).view.read (Elt F) (scores (m ((c : Thread nD τ).loc main_arg0))) := by
  show (cfg0.win 1).cut (grid0.coords t) ((dats m 0 c).after 1 t) = _
  rw [after0_1]
  unfold_out out0_1
  rw [View.canon_unit_zero zeros_three, View.ld_unit_zero zeros_four, payload_eq, loaded]
  have h : ∀ i j : Fin 512, shapeCast S1x512x512 (nms (tile (image t) (m ((c : Thread nD τ).loc main_arg0) : FVec F S4x1x512x512 .f32)))
      shapeCasts_S512x512_S1x512x512 (ix3 (0 : Fin 1) i j) = nms (tile (image t) (m ((c : Thread nD τ).loc main_arg0))) (ix2 i j) :=
    fun i j => shapeCast_apply _ _ _ _ (by
      rw [Shape.rowMajor_val_three, Shape.rowMajor_val_two]
      show i.val * 512 + j.val = (0 * 512 + i.val) * 512 + j.val
      omega)
  funext y
  have e : win0_1.index t 0 * win0_1.size 0 = t.val ∧ win0_1.index t 1 * win0_1.size 1 = 0
      ∧ win0_1.index t 2 * win0_1.size 2 = 0 ∧ win0_1.xsize (grid0.coords t) 0 = 1 := by
    rcases fin_N0 t with rfl | rfl | rfl | rfl <;> decide +kernel
  obtain ⟨e0, e1, e2, x0⟩ := e
  have y0 : (y 0).val = 0 := by have : (y 0).val < win0_1.xsize (grid0.coords t) 0 := (y 0).isLt; omega
  have hy : (win0_1.blk t).view.emb y = ix3 (image t) (y 1) (y 2) := by
    funext a
    refine Fin.ext ?_
    match a with
    | ⟨0, _⟩ => show win0_1.index t 0 * win0_1.size 0 + 1 * (y 0).val = t.val
                omega
    | ⟨1, _⟩ => show win0_1.index t 1 * win0_1.size 1 + 1 * (y 1).val = (y 1).val
                omega
    | ⟨2, _⟩ => show win0_1.index t 2 * win0_1.size 2 + 1 * (y 2).val = (y 2).val
                omega
  have hy' : (fun a => y a : S1x512x512.Idx) = ix3 (0 : Fin 1) (y 1) (y 2) := by
    funext a
    refine Fin.ext ?_
    match a with
    | ⟨0, _⟩ => exact y0
    | ⟨1, _⟩ => rfl
    | ⟨2, _⟩ => rfl
  refine Eq.trans ?_ (congrArg (scores (m ((c : Thread nD τ).loc main_arg0) : FVec F S4x1x512x512 .f32)) hy).symm
  refine Eq.trans ?_ (h (y 1) (y 2))
  exact congrArg (shapeCast S1x512x512 (nms (tile (image t) (m ((c : Thread nD τ).loc main_arg0) : FVec F S4x1x512x512 .f32)))
      shapeCasts_S512x512_S1x512x512) hy'

/-- An index of the scores' array is in point `t`'s block just when its image is `t`. -/
theorem mem_blk (t : Fin cfg0.N) (i : S4x512x512.Idx) :
    i ∈ ((cfg0.win 1).blk t).view.set ↔ t.val * 1 ≤ (i 0 : Nat) ∧ (i 0 : Nat) < t.val * 1 + 1 := by
  show i ∈ ((View.whole main_call0_v0).slice (win0_1.rect t)).set ↔ _
  rw [View.set_slice_whole, Rect.mem_set_unit]
  have h1 : (i 1 : Nat) < 512 := (i 1).isLt
  have h2 : (i 2 : Nat) < 512 := (i 2).isLt
  have e : win0_1.index t 0 * win0_1.size 0 = t.val * 1 ∧ win0_1.xsize (grid0.coords t) 0 = 1
      ∧ win0_1.index t 1 * win0_1.size 1 = 0 ∧ win0_1.xsize (grid0.coords t) 1 = 512
      ∧ win0_1.index t 2 * win0_1.size 2 = 0 ∧ win0_1.xsize (grid0.coords t) 2 = 512 := by
    rcases fin_N0 t with rfl | rfl | rfl | rfl <;> decide +kernel
  obtain ⟨e0, x0, e1, x1, e2, x2⟩ := e
  refine ⟨fun h => ?_, fun h a => ?_⟩
  · have : win0_1.index t 0 * win0_1.size 0 ≤ (i 0 : Nat) ∧ (i 0 : Nat) < win0_1.index t 0 * win0_1.size 0 + win0_1.xsize (grid0.coords t) 0 := h 0
    rwa [e0, x0] at this
  · match a with
    | ⟨0, _⟩ => show win0_1.index t 0 * win0_1.size 0 ≤ (i 0 : Nat) ∧ (i 0 : Nat) < win0_1.index t 0 * win0_1.size 0 + win0_1.xsize (grid0.coords t) 0
                rw [e0, x0]; exact h
    | ⟨1, _⟩ => show win0_1.index t 1 * win0_1.size 1 ≤ (i 1 : Nat) ∧ (i 1 : Nat) < win0_1.index t 1 * win0_1.size 1 + win0_1.xsize (grid0.coords t) 1
                rw [e1, x1]; omega
    | ⟨2, _⟩ => show win0_1.index t 2 * win0_1.size 2 ≤ (i 2 : Nat) ∧ (i 2 : Nat) < win0_1.index t 2 * win0_1.size 2 + win0_1.xsize (grid0.coords t) 2
                rw [e2, x2]; omega

/-- The four blocks fill the array. -/
theorem cover (i : S4x512x512.Idx) : ∃ t : Fin cfg0.N, (cfg0.win 1).flush t = true ∧ i ∈ ((cfg0.win 1).blk t).view.set := by
  have h0 : (i 0 : Nat) < 4 := (i 0).isLt
  have hN : cfg0.N = 4 := N_0
  refine ⟨⟨(i 0 : Nat), by omega⟩, flush0_1 _, ?_⟩
  rw [mem_blk]
  dsimp only
  omega

/-- **The region's array** ends at the batch's suppressed scores. -/
theorem final (c : Dev nD) : (dats m 0 c).arrAt 1 cfg0.N = scores (m ((c : Thread nD τ).loc main_arg0)) :=
  (dats m 0 c).arrAt_eq_of_cover 1 (scores (m ((c : Thread nD τ).loc main_arg0))) (fun t _ => flushed_eq m c t) cover

/-- **The scores agree** once each image is read as a list: the kernel's suppressed scores are the reference's with
    their border removed. -/
theorem ranked_eq (x : FVec Ideal S4x1x512x512 .f32) :
    shapeCast S4x262144 (scores x) shapeCasts_S4x512x512_S4x262144
      = shapeCast S4x262144 (bordered (kept4 x) border) ReferenceIdeal.Gen.shapeCasts_S4x1x512x512_S4x262144 := by
  have h : ∀ (b : Fin 4) (n : Fin 262144), (shapeCast S4x262144 (scores x) shapeCasts_S4x512x512_S4x262144 (ix2 b n) : EReal)
      = shapeCast S4x262144 (bordered (kept4 x) border) ReferenceIdeal.Gen.shapeCasts_S4x1x512x512_S4x262144 (ix2 b n) := by
    intro b n
    have hl : (shapeCast S4x262144 (scores x) shapeCasts_S4x512x512_S4x262144 (ix2 b n) : EReal)
        = nms (F := Ideal) (tile b x) (ix2 ⟨n.val / 512, by omega⟩ ⟨n.val % 512, by omega⟩) :=
      shapeCast_apply _ _ _ (ix3 b ⟨n.val / 512, by omega⟩ ⟨n.val % 512, by omega⟩) (by
        rw [Shape.rowMajor_val_three, Shape.rowMajor_val_two]
        show (b.val * 512 + n.val / 512) * 512 + n.val % 512 = b.val * 262144 + n.val
        omega)
    have hr : (shapeCast S4x262144 (bordered (kept4 x) border) ReferenceIdeal.Gen.shapeCasts_S4x1x512x512_S4x262144 (ix2 b n) : EReal)
        = tile b (bordered (kept4 x) border) (ix2 ⟨n.val / 512, by omega⟩ ⟨n.val % 512, by omega⟩) :=
      shapeCast_apply _ _ _ (ix4 b (0 : Fin 1) ⟨n.val / 512, by omega⟩ ⟨n.val % 512, by omega⟩) (by
        rw [Shape.rowMajor_val_four, Shape.rowMajor_val_two]
        show ((b.val * 1 + 0) * 512 + n.val / 512) * 512 + n.val % 512 = b.val * 262144 + n.val
        omega)
    rw [hl, hr]
    refine (congrFun (tile_nms b x _ fun i j => ?_) _).symm
    refine (broadcastInDim_apply _ _ _ _ (ix4 (0 : Fin 1) (0 : Fin 1) i j) (fun a => by fin_cases a <;> rfl)).trans ?_
    exact broadcastInDim_apply _ _ _ _ (ix2 i j) (fun a => by fin_cases a <;> rfl)
  funext p
  rw [eq_ix2 p]
  exact h (p 0) (p 1)

end Cert.Nms
-- ==== Proof.Sim.lean ====
/-
  Two lines of host operations run side by side: what it means for two programs' buffers to hold the same
  contents, and the step lemmas that carry this from one pair of operations to the next.
-/
module

public import Idealize.ShloMosaic.Lib.Pipeline.Frame

@[expose] public section

namespace Cert.Proof
open Idealize.SL.Sem Idealize.ShloMosaic Idealize.ShloMosaic.StableHlo

variable {τ : Topo} {sig sig' : RefSig} {Val : EltTy → Type}

/-- Pairs of buffers, one of each program. -/
abbrev Pairs (sig sig' : RefSig) := List (Ref sig .tc × Ref sig' .tc)

/-- The two buffers of every pair hold the same contents. -/
def Agree (L : Pairs sig sig') (V : Valuation τ sig Val) (W : Valuation τ sig' Val) : Prop :=
  ∀ p ∈ L, HEq (V (Proc.devRef .tc p.1)) (W (Proc.devRef .tc p.2))

/-- From contents related by `R`, the two lines of operations lead to contents that agree on `P`. -/
def Sim (R : Valuation τ sig Val → Valuation τ sig' Val → Prop) (ops : List (HloOp τ sig Val)) (ops' : List (HloOp τ sig' Val))
    (P : Pairs sig sig') : Prop :=
  ∀ V W, R V W → Agree P (after ops V) (after ops' W)

/-- No pair of `L` has `y` on the left (told by the buffer's number). -/
def freshL (L : Pairs sig sig') (y : Ref sig .tc) : Bool := L.all fun p => p.1.idx.val != y.idx.val

/-- No pair of `L` has `y` on the right. -/
def freshR (L : Pairs sig sig') (y : Ref sig' .tc) : Bool := L.all fun p => p.2.idx.val != y.idx.val

/-- A buffer whose number occurs nowhere on the left of `L` is none of the left buffers. -/
theorem ne_of_freshL {L : Pairs sig sig'} {y : Ref sig .tc} (h : freshL L y = true) {p : Ref sig .tc × Ref sig' .tc} (hp : p ∈ L) : p.1 ≠ y := by
  intro e
  have := List.all_eq_true.mp h p hp
  rw [e] at this
  simp at this

/-- A buffer whose number occurs nowhere on the right of `L` is none of the right buffers. -/
theorem ne_of_freshR {L : Pairs sig sig'} {y : Ref sig' .tc} (h : freshR L y = true) {p : Ref sig .tc × Ref sig' .tc} (hp : p ∈ L) : p.2 ≠ y := by
  intro e
  have := List.all_eq_true.mp h p hp
  rw [e] at this
  simp at this

/-- The pairs of `P` that already agree. -/
theorem Sim.done {L P : Pairs sig sig'} (h : ∀ p ∈ P, p ∈ L) : Sim (τ := τ) (Val := Val) (Agree L) [] [] P :=
  fun _ _ hA p hp => hA p (h p hp)

/-- The left line is at its end and the right one is an append of nothing. -/
theorem Sim.part {R : Valuation τ sig Val → Valuation τ sig' Val → Prop} {P : Pairs sig sig'} {ops : List (HloOp τ sig Val)}
    {rest : List (HloOp τ sig' Val)} (h : Sim R ops rest P) : Sim R ops ([] ++ rest) P := h

/-- A right line as an append with nothing, the shape the step lemmas read. -/
theorem Sim.last {R : Valuation τ sig Val → Valuation τ sig' Val → Prop} {P : Pairs sig sig'} {ops : List (HloOp τ sig Val)}
    {ops' : List (HloOp τ sig' Val)} (h : Sim R ops (ops' ++ []) P) : Sim R ops ops' P := by
  rwa [List.append_nil] at h

/-- One operation on each side, each writing one new buffer, to the same contents. -/
theorem Sim.step {L P : Pairs sig sig'} {ops : List (HloOp τ sig Val)} {ops' rest : List (HloOp τ sig' Val)}
    {op : HloOp τ sig Val} {op' : HloOp τ sig' Val} {y : Ref sig .tc} {y' : Ref sig' .tc}
    (hw : op.writes = {Proc.devRef .tc y}) (hw' : op'.writes = {Proc.devRef .tc y'})
    (hy : freshL L y = true) (hy' : freshR L y' = true)
    (hr : ∀ V W, Agree L V W → HEq (op.result V (Proc.devRef .tc y)) (op'.result W (Proc.devRef .tc y')))
    (h : Sim (Agree ((y, y') :: L)) ops (ops' ++ rest) P) : Sim (Agree L) (op :: ops) ((op' :: ops') ++ rest) P := by
  intro V W hA
  refine h (op.result V) (op'.result W) fun p hp => ?_
  rcases List.mem_cons.mp hp with rfl | hp
  · exact hr V W hA
  · rw [HloOp.result_of_not_mem, HloOp.result_of_not_mem]
    · exact hA p hp
    · rw [hw', Finset.mem_singleton]
      exact devRef_ne_of_ne (ne_of_freshR hy' hp)
    · rw [hw, Finset.mem_singleton]
      exact devRef_ne_of_ne (ne_of_freshL hy hp)

variable {L P : Pairs sig sig'} {ops : List (HloOp τ sig Val)} {ops' rest : List (HloOp τ sig' Val)}

/-- An operation without operands on each side. -/
theorem Sim.nullary {y : Ref sig .tc} {y' : Ref sig' .tc} {v hv v' hv'} (hy : freshL L y = true) (hy' : freshR L y' = true)
    (hf : HEq v v') (h : Sim (Agree ((y, y') :: L)) ops (ops' ++ rest) P) :
    Sim (Agree L) (StableHlo.nullary y v hv :: ops) ((StableHlo.nullary y' v' hv' :: ops') ++ rest) P :=
  Sim.step rfl rfl hy hy' (fun V W _ => by rw [nullary_result, nullary_result]; exact hf) h

/-- The same operation of one operand on each side. -/
theorem Sim.unary {x y : Ref sig .tc} {x' y' : Ref sig' .tc} {f hx hv f' hx' hv'} (hm : (x, x') ∈ L)
    (hy : freshL L y = true) (hy' : freshR L y' = true) (hf : ∀ u u', HEq u u' → HEq (f u) (f' u'))
    (h : Sim (Agree ((y, y') :: L)) ops (ops' ++ rest) P) :
    Sim (Agree L) (StableHlo.unary x y f hx hv :: ops) ((StableHlo.unary x' y' f' hx' hv' :: ops') ++ rest) P :=
  Sim.step rfl rfl hy hy' (fun V W hA => by rw [unary_result, unary_result]; exact hf _ _ (hA _ hm)) h

/-- The same operation of two operands on each side. -/
theorem Sim.binary {a b y : Ref sig .tc} {a' b' y' : Ref sig' .tc} {f ha hb hv f' ha' hb' hv'}
    (hma : (a, a') ∈ L) (hmb : (b, b') ∈ L) (hy : freshL L y = true) (hy' : freshR L y' = true)
    (hf : ∀ u u', HEq u u' → ∀ w w', HEq w w' → HEq (f u w) (f' u' w'))
    (h : Sim (Agree ((y, y') :: L)) ops (ops' ++ rest) P) :
    Sim (Agree L) (StableHlo.binary a b y f ha hb hv :: ops) ((StableHlo.binary a' b' y' f' ha' hb' hv' :: ops') ++ rest) P :=
  Sim.step rfl rfl hy hy' (fun V W hA => by rw [binary_result, binary_result]; exact hf _ _ (hA _ hma) _ _ (hA _ hmb)) h

/-- The same operation of three operands on each side. -/
theorem Sim.ternary {c a b y : Ref sig .tc} {c' a' b' y' : Ref sig' .tc} {f hc ha hb hv f' hc' ha' hb' hv'}
    (hmc : (c, c') ∈ L) (hma : (a, a') ∈ L) (hmb : (b, b') ∈ L) (hy : freshL L y = true) (hy' : freshR L y' = true)
    (hf : ∀ s s', HEq s s' → ∀ u u', HEq u u' → ∀ w w', HEq w w' → HEq (f s u w) (f' s' u' w'))
    (h : Sim (Agree ((y, y') :: L)) ops (ops' ++ rest) P) :
    Sim (Agree L) (StableHlo.ternary c a b y f hc ha hb hv :: ops)
      ((StableHlo.ternary c' a' b' y' f' hc' ha' hb' hv' :: ops') ++ rest) P :=
  Sim.step rfl rfl hy hy' (fun V W hA => by
    rw [ternary_result, ternary_result]; exact hf _ _ (hA _ hmc) _ _ (hA _ hma) _ _ (hA _ hmb)) h

/-- The same reshape on each side. -/
theorem Sim.reshape {x y : Ref sig .tc} {x' y' : Ref sig' .tc} {he : x.ty.elt = y.ty.elt} {hn hx hv}
    {he' : x'.ty.elt = y'.ty.elt} {hn' hx' hv'} (hm : (x, x') ∈ L) (hy : freshL L y = true) (hy' : freshR L y' = true)
    (hf : ∀ (u : x.ty.Contents Val) (u' : x'.ty.Contents Val), HEq u u' → HEq (fun i => he ▸ shapeCast y.ty.shape u hn i : y.ty.Contents Val)
      (fun i => he' ▸ shapeCast y'.ty.shape u' hn' i : y'.ty.Contents Val))
    (h : Sim (Agree ((y, y') :: L)) ops (ops' ++ rest) P) :
    Sim (Agree L) (StableHlo.reshape x y he hn hx hv :: ops) ((StableHlo.reshape x' y' he' hn' hx' hv' :: ops') ++ rest) P :=
  Sim.step rfl rfl hy hy' (fun V W hA => by rw [reshape_result, reshape_result]; exact hf _ _ (hA _ hm)) h

/-! Where the two lines do not match operation by operation, a stretch of each is set aside and compared as a whole. -/

/-- The contents after two stretches run from contents related by `R`. -/
def Aside (R : Valuation τ sig Val → Valuation τ sig' Val → Prop) (pre : List (HloOp τ sig Val)) (pre' : List (HloOp τ sig' Val))
    (V : Valuation τ sig Val) (W : Valuation τ sig' Val) : Prop :=
  ∃ V₀ W₀, R V₀ W₀ ∧ V = after pre V₀ ∧ W = after pre' W₀

variable {R : Valuation τ sig Val → Valuation τ sig' Val → Prop} {pre : List (HloOp τ sig Val)} {pre' : List (HloOp τ sig' Val)}

/-- Begin to set operations aside. -/
theorem Sim.aside (h : Sim (Aside R [] []) ops ops' P) : Sim R ops ops' P :=
  fun V W hR => h V W ⟨V, W, hR, rfl, rfl⟩

/-- Set one operation of the left line aside. -/
theorem Sim.asideL {op : HloOp τ sig Val} (h : Sim (Aside R (pre ++ [op]) pre') ops ops' P) : Sim (Aside R pre pre') (op :: ops) ops' P := by
  rintro _ _ ⟨V₀, W₀, hR, rfl, rfl⟩
  have := h _ _ ⟨V₀, W₀, hR, rfl, rfl⟩
  rwa [after_append] at this

/-- Set one operation of the right line aside. -/
theorem Sim.asideR {op' : HloOp τ sig' Val} (h : Sim (Aside R pre (pre' ++ [op'])) ops (ops' ++ rest) P) :
    Sim (Aside R pre pre') ops ((op' :: ops') ++ rest) P := by
  rintro _ _ ⟨V₀, W₀, hR, rfl, rfl⟩
  have := h _ _ ⟨V₀, W₀, hR, rfl, rfl⟩
  rw [after_append pre'] at this
  exact this

/-- Go on with what the two stretches set aside are known to lead to. -/
theorem Sim.resume (L : Pairs sig sig') (hL : ∀ V W, R V W → Agree L (after pre V) (after pre' W))
    (h : Sim (Agree L) ops ops' P) : Sim (Aside R pre pre') ops ops' P := by
  rintro _ _ ⟨V₀, W₀, hR, rfl, rfl⟩
  exact h _ _ (hL _ _ hR)

end Cert.Proof

end
-- ==== Proof.Grid.lean ====
/-
  The patch offsets: the reference builds them by iota and linspace, the kernel has them as tables; and the product
  of the patch weights with the offsets, which the reference writes as a dot and the kernel as a sum of products.
-/
module

public import proofs.«01_k».proof.Proof.Gen.KernelIdeal.Frame
public import proofs.«01_k».proof.Proof.Gen.ReferenceIdeal.Run
public import Idealize.ShloMosaic.Lib.Pipeline.Value
public import Idealize.ShloMosaic.Lib.ValueIdx
public import Idealize.ShloMosaic.Lib.IdealHost
public import Idealize.ShloMosaic.Lib.Pointwise.Reduce
public import Idealize.ShloMosaic.PureOps.Ideal.Laws

@[expose] public section

namespace Cert.Grid

open Cert.ReferenceIdeal Cert.ReferenceIdeal.Gen Idealize.ShloMosaic
open Idealize.ShloMosaic.ValueIdx (contrEquiv1 contrEquiv1_symm_val)
open scoped BigOperators

variable {F : FTy → Type} [FloatOps F]

/-- The row offsets of a 5 x 5 patch, row by row, are the kernel's first table. -/
theorem rows_eq : shapeCast S25 (broadcastInDim S5x5 ![0] bcast_S5_S5x5_0 (iotaInDim S5 32 0)) shapeCasts_S5x5_S25
    = fun i => KernelIdeal.lit0 (KernelIdeal.S25.rowMajor i) := by
  have h : ∀ a : Fin 25, shapeCast S25 (broadcastInDim S5x5 ![0] bcast_S5_S5x5_0 (iotaInDim S5 32 0)) shapeCasts_S5x5_S25 (ix1 a)
      = KernelIdeal.lit0 (KernelIdeal.S25.rowMajor (ix1 a)) := by decide +kernel
  funext i
  rw [eq_ix1 i]
  exact h (i 0)

/-- The column offsets of a 5 x 5 patch, row by row, are the kernel's second table. -/
theorem cols_eq : shapeCast S25 (broadcastInDim S5x5 ![1] bcast_S5_S5x5_1 (iotaInDim S5 32 0)) shapeCasts_S5x5_S25
    = fun i => KernelIdeal.lit1 (KernelIdeal.S25.rowMajor i) := by
  have h : ∀ a : Fin 25, shapeCast S25 (broadcastInDim S5x5 ![1] bcast_S5_S5x5_1 (iotaInDim S5 32 0)) shapeCasts_S5x5_S25 (ix1 a)
      = KernelIdeal.lit1 (KernelIdeal.S25.rowMajor (ix1 a)) := by decide +kernel
  funext i
  rw [eq_ix1 i]
  exact h (i 0)

/-- The reference's quarters `0/4 … 3/4`. -/
noncomputable def quarters : FVec F S4 .f32 :=
  Host.divf (sitofp .f32 (iotaInDim S4 32 0)) (broadcastInDim S4 ![] bcast_S_S4 (constant S_ .f32 0x40800000#32))

/-- The first four of the reference's five evenly spaced numbers, a mean of the ends weighted by the quarters. -/
noncomputable def lineLow : FVec F S4 .f32 :=
  addf
    (mulf (broadcastInDim S4 ![0] bcast_S1_S4_0 (shapeCast S1 (sitofp (F := F) .f32 (constantI S_ 32 4294967294#32)) shapeCasts_S_S1))
      (subf (broadcastInDim S4 ![] bcast_S_S4 (constant S_ .f32 0x3F800000#32)) quarters))
    (mulf (broadcastInDim S4 ![0] bcast_S1_S4_0 (shapeCast S1 (sitofp (F := F) .f32 (constantI S_ 32 2#32)) shapeCasts_S_S1)) quarters)

/-- The last of the five numbers, the upper end itself. -/
noncomputable def lineHigh : FVec F S1 .f32 :=
  broadcastInDim S1 ![] bcast_S_S1 (sitofp (F := F) .f32 (constantI S_ 32 2#32))

/-- The reference's five evenly spaced numbers from -2 to 2. -/
noncomputable def line : FVec F S5 .f32 :=
  concatenate S5 0 [⟨S4, lineLow (F := F)⟩, ⟨S1, lineHigh (F := F)⟩] concatenates_S4_S1_S5_d0

/-- The column offset of every patch position. -/
noncomputable def builtCol : FVec F S25x1 .f32 :=
  broadcastInDim S25x1 ![0] bcast_S25_S25x1_0 (shapeCast S25 (broadcastInDim S5x5 ![1] bcast_S5_S5x5_1 (line (F := F))) shapeCasts_S5x5_S25)

/-- The row offset of every patch position. -/
noncomputable def builtRow : FVec F S25x1 .f32 :=
  broadcastInDim S25x1 ![0] bcast_S25_S25x1_0 (shapeCast S25 (broadcastInDim S5x5 ![0] bcast_S5_S5x5_0 (line (F := F))) shapeCasts_S5x5_S25)

/-- The reference's offsets: each patch position's column offset, then its row offset. -/
noncomputable def built : FVec F S25x2 .f32 :=
  concatenate S25x2 1 [⟨S25x1, builtCol (F := F)⟩, ⟨S25x1, builtRow (F := F)⟩] concatenates_S25x1_S25x1_S25x2_d1

/-- The kernel's table of offsets. -/
noncomputable def table : FVec F S25x2 .f32 :=
  fun i => FloatOps.ofBits .f32 (KernelIdeal.lit2 (KernelIdeal.S25x2.rowMajor i))

/-- The pattern `0x40800000` is four. -/
theorem ofBits_four : Ideal.ofBits .f32 0x40800000#32 = ((4 : ℝ) : EReal) := by
  simp [Ideal.ofBits, Ideal.ieee, -EReal.coe_mul]; norm_num

/-- The five numbers are `k - 2`. -/
theorem line_apply (k : Fin 5) : (line (F := Ideal) (ix1 k) : EReal) = (((k.val : ℝ) - 2 : ℝ) : EReal) := by
  have t2 : (2#32 : BitVec 32).toInt = 2 := by decide
  have tm : (4294967294#32 : BitVec 32).toInt = -2 := by decide
  by_cases hk : k.val < 4
  · have e : (line (F := Ideal) (ix1 k) : EReal) =
        (((4294967294#32 : BitVec 32).toInt : ℝ) : EReal) * (Ideal.ofBits .f32 0x3F800000#32
          - Ideal.div (((BitVec.ofNat 32 k.val).toInt : ℝ) : EReal) (Ideal.ofBits .f32 0x40800000#32))
        + (((2#32 : BitVec 32).toInt : ℝ) : EReal) *
          Ideal.div (((BitVec.ofNat 32 k.val).toInt : ℝ) : EReal) (Ideal.ofBits .f32 0x40800000#32) := by
      have p : line (F := Ideal) (ix1 k) = lineLow (F := Ideal) (ix1 ⟨k.val, hk⟩) := by
        unfold line
        exact concatenate_apply_piece 0 _ _ (ix1 k) 0 (by show 0 < 2; decide) S4 _ rfl rfl 0 rfl (ix1 ⟨k.val, hk⟩)
          (fun b hb => by fin_cases b; exact absurd rfl hb) (by show 0 + k.val = k.val; omega)
      exact p
    have tk : (BitVec.ofNat 32 k.val).toInt = (k.val : Int) :=
      (by decide : ∀ k : Fin 5, (BitVec.ofNat 32 k.val).toInt = (k.val : Int)) k
    rw [e, t2, tm, tk, Ideal.ofBits_one_f32, ofBits_four, Ideal.div_coe (by norm_num)]
    rw [show (1 : EReal) = ((1 : ℝ) : EReal) from rfl, ← EReal.coe_mul, ← EReal.coe_sub, ← EReal.coe_mul, ← EReal.coe_mul,
      ← EReal.coe_add]
    congr 1; push_cast; ring
  · have e : (line (F := Ideal) (ix1 k) : EReal) = (((2#32 : BitVec 32).toInt : ℝ) : EReal) := by
      have p : line (F := Ideal) (ix1 k) = lineHigh (F := Ideal) (ix1 ⟨k.val - 4, by omega⟩) := by
        unfold line
        exact concatenate_apply_piece 0 _ _ (ix1 k) 1 (by show 1 < 2; decide) S1 _ rfl rfl 4 rfl (ix1 ⟨k.val - 4, by omega⟩)
          (fun b hb => by fin_cases b; exact absurd rfl hb) (by show 4 + (k.val - 4) = k.val; omega)
      exact p
    have h4 : k.val = 4 := by omega
    rw [e, t2, h4]
    congr 1; norm_num

/-- The word of the float `k - 2`. -/
def word : Fin 5 → BitVec 32 := ![0xC0000000#32, 0xBF800000#32, 0x00000000#32, 0x3F800000#32, 0x40000000#32]

/-- What the word of `k - 2` denotes. -/
theorem word_apply (k : Fin 5) : Ideal.ofBits .f32 (word k) = (((k.val : ℝ) - 2 : ℝ) : EReal) := by
  fin_cases k <;> simp [word, Ideal.ofBits, Ideal.ieee, -EReal.coe_mul, -EReal.coe_sub] <;> norm_num

/-- The kernel's table holds the words of `column - 2` and `row - 2`. -/
theorem table_word (a : Fin 25) : KernelIdeal.lit2 (KernelIdeal.S25x2.rowMajor (ix2 a 0)) = word ⟨a.val % 5, by omega⟩ ∧
    KernelIdeal.lit2 (KernelIdeal.S25x2.rowMajor (ix2 a 1)) = word ⟨a.val / 5, by omega⟩ := by
  revert a; decide +kernel

/-- Patch position `a` is row `a / 5` and column `a % 5`. -/
theorem unfold_pos (a : Fin 25) : (S5x5.rowMajor (ix2 ⟨a.val / 5, by omega⟩ ⟨a.val % 5, by omega⟩)).val = (S25.rowMajor (ix1 a)).val := by
  revert a; decide +kernel

/-- The first column of the reference's offsets. -/
theorem built_col (a : Fin 25) : built (F := F) (ix2 a (0 : Fin 2)) = builtCol (F := F) (ix2 a (0 : Fin 1)) := by
  unfold built
  exact concatenate_apply_piece 1 [⟨S25x1, builtCol (F := F)⟩, ⟨S25x1, builtRow (F := F)⟩] concatenates_S25x1_S25x1_S25x2_d1
    (ix2 a (0 : Fin 2)) 0 (by show 0 < 2; decide) S25x1 builtCol rfl rfl 0 rfl (ix2 a (0 : Fin 1))
    (fun b hb => by fin_cases b <;> first | exact absurd rfl hb | rfl) rfl

/-- The second column of the reference's offsets. -/
theorem built_row (a : Fin 25) : built (F := F) (ix2 a (1 : Fin 2)) = builtRow (F := F) (ix2 a (0 : Fin 1)) := by
  unfold built
  exact concatenate_apply_piece 1 [⟨S25x1, builtCol (F := F)⟩, ⟨S25x1, builtRow (F := F)⟩] concatenates_S25x1_S25x1_S25x2_d1
    (ix2 a (1 : Fin 2)) 1 (by show 1 < 2; decide) S25x1 builtRow rfl rfl 1 rfl (ix2 a (0 : Fin 1))
    (fun b hb => by fin_cases b <;> first | exact absurd rfl hb | rfl) rfl

/-- **The offsets agree.** -/
theorem built_eq : built (F := Ideal) = table := by
  have h : ∀ (a : Fin 25) (c : Fin 2), (built (F := Ideal) (ix2 a c) : EReal) = table (F := Ideal) (ix2 a c) := by
    intro a c
    fin_cases c
    · have e : built (F := Ideal) (ix2 a 0) = line (F := Ideal) (ix1 ⟨a.val % 5, by omega⟩) := by
        rw [built_col a]
        unfold builtCol
        refine (broadcastInDim_apply _ _ _ _ (ix1 a) (fun b => by fin_cases b; rfl)).trans ?_
        refine (shapeCast_apply _ _ _ _ (unfold_pos a)).trans ?_
        exact broadcastInDim_apply _ _ _ _ _ (fun b => by fin_cases b; rfl)
      exact e.trans ((line_apply _).trans ((word_apply _).symm.trans (congrArg (Ideal.ofBits .f32) (table_word a).1.symm)))
    · have e : built (F := Ideal) (ix2 a 1) = line (F := Ideal) (ix1 ⟨a.val / 5, by omega⟩) := by
        rw [built_row a]
        unfold builtRow
        refine (broadcastInDim_apply _ _ _ _ (ix1 a) (fun b => by fin_cases b; rfl)).trans ?_
        refine (shapeCast_apply _ _ _ _ (unfold_pos a)).trans ?_
        exact broadcastInDim_apply _ _ _ _ _ (fun b => by fin_cases b; rfl)
      exact e.trans ((line_apply _).trans ((word_apply _).symm.trans (congrArg (Ideal.ofBits .f32) (table_word a).2.symm)))
  funext p
  rw [eq_ix2 p]
  exact h (p 0) (p 1)

open Cert.KernelIdeal.Gen in
/-- The kernel's product of weights and offsets: every weight times every offset, summed over the patch. -/
noncomputable def summed (x : FVec F S4x4096x25 .f32) (g : FVec F S25x2 .f32) : FVec F S4x4096x2 .f32 :=
  Host.reduceAdd (mulf
    (broadcastInDim KernelIdeal.S4x4096x25x2 ![0, 1, 2, 3] KernelIdeal.Gen.bcast_S4x4096x25x1_S4x4096x25x2_0_1_2_3
      (broadcastInDim KernelIdeal.S4x4096x25x1 ![0, 1, 2] KernelIdeal.Gen.bcast_S4x4096x25_S4x4096x25x1_0_1_2 x))
    (broadcastInDim KernelIdeal.S4x4096x25x2 ![0, 1, 2, 3] KernelIdeal.Gen.bcast_S1x1x25x2_S4x4096x25x2_0_1_2_3
      (broadcastInDim KernelIdeal.S1x1x25x2 ![1, 2, 3] KernelIdeal.Gen.bcast_S1x25x2_S1x1x25x2_1_2_3
        (broadcastInDim KernelIdeal.S1x25x2 ![1, 2] KernelIdeal.Gen.bcast_S25x2_S1x25x2_1_2 g))))
    (constant KernelIdeal.S_ .f32 0x00000000#32) KernelIdeal.Gen.reducesTo_S4x4096x25x2_S4x4096x2_d2 KernelIdeal.Gen.h_S_

/-- **The two products agree**: the sum of products is the dot. -/
theorem summed_eq (x : FVec Ideal S4x4096x25 .f32) (g : FVec Ideal S25x2 .f32) :
    summed x g = Host.dotGeneral dot_S4x4096x25_S25x2_S4x4096x2_2_0_01_1_n_n none x g := by
  have h : ∀ (b : Fin 4) (n : Fin 4096) (c : Fin 2), (summed x g (ix3 b n c) : EReal) =
      Host.dotGeneral dot_S4x4096x25_S25x2_S4x4096x2_2_0_01_1_n_n none x g (ix3 b n c) := by
    intro b n c
    have hl : (summed x g (ix3 b n c) : EReal) = ∑ k : Fin 25, (x (ix3 b n k) : EReal) * g (ix2 k c) := by
      refine (Ideal.hostReduceAdd_r4_a2 (n0 := 4) (n1 := 4096) (n2 := 25) (n3 := 2) _ _ _ _).trans ?_
      refine (congrArg (· + _) Ideal.ofBits_zero_f32).trans ((zero_add _).trans ?_)
      refine Finset.sum_congr rfl fun k _ => ?_
      refine congrArg₂ (fun u v : EReal => u * v) ?_ ?_
      · refine (broadcastInDim_apply _ _ _ _ (ix4 b n k 0) (fun a => by fin_cases a <;> rfl)).trans ?_
        exact broadcastInDim_apply _ _ _ _ (ix3 b n k) (fun a => by fin_cases a <;> rfl)
      · refine (broadcastInDim_apply _ _ _ _ (ix4 0 0 k c) (fun a => by fin_cases a <;> rfl)).trans ?_
        refine (broadcastInDim_apply _ _ _ _ (ix3 0 k c) (fun a => by fin_cases a <;> rfl)).trans ?_
        exact broadcastInDim_apply _ _ _ _ (ix2 k c) (fun a => by fin_cases a <;> rfl)
    rw [hl]
    show _ = FloatOps.dotGeneral dot_S4x4096x25_S25x2_S4x4096x2_2_0_01_1_n_n none _ x g (ix3 b n c)
    rw [Ideal.dotGeneral_apply, ← Equiv.sum_comp (contrEquiv1 dot_S4x4096x25_S25x2_S4x4096x2_2_0_01_1_n_n 25 rfl rfl).symm]
    refine Finset.sum_congr rfl fun k _ => ?_
    have hk := contrEquiv1_symm_val dot_S4x4096x25_S25x2_S4x4096x2_2_0_01_1_n_n 25 rfl rfl k
    refine congrArg₂ (fun u v : EReal => u * v) (congrArg x ?_) (congrArg g ?_)
    · funext a
      refine Fin.ext ?_
      match a with
      | ⟨0, _⟩ => rfl
      | ⟨1, _⟩ => rfl
      | ⟨2, _⟩ => exact hk.symm
    · funext a
      refine Fin.ext ?_
      match a with
      | ⟨0, _⟩ => exact hk.symm
      | ⟨1, _⟩ => rfl
  funext p
  rw [eq_ix3 p]
  exact h (p 0) (p 1) (p 2)

end Cert.Grid
-- ==== Proof.Tail.lean ====
/-
  The operations after the region, side by side with the reference's: from the same suppressed scores and the same
  argument they lead to the same three results.
-/
module

public import proofs.«01_k».proof.Proof.Sim
public import proofs.«01_k».proof.Proof.Grid
public import proofs.«01_k».proof.Proof.Nms
public import proofs.«01_k».proof.Proof.Gen.KernelIdeal.Frame
public import proofs.«01_k».proof.Proof.Gen.ReferenceIdeal.Run
public import Idealize.ShloMosaic.PureOps.Ideal

@[expose] public section

set_option maxRecDepth 60000
set_option maxHeartbeats 0

noncomputable section

namespace Cert.Proof
open Idealize.SL.Sem Idealize.ShloMosaic Idealize.ShloMosaic.StableHlo

open Cert.KernelIdeal in
/-- The buffers that agree once the scores are ranked and the patch offsets are built. -/
abbrev live1 : Pairs Cert.KernelIdeal.sig Cert.ReferenceIdeal.sig :=
  [(main_arg0, ReferenceIdeal.main_arg0), (main_call0_cst_1, ReferenceIdeal.main_cst), (main_call0_indices, ReferenceIdeal.main_indices),
    (main_call0_v3, ReferenceIdeal.main_v47), (main_call0_c, ReferenceIdeal.main_v52), (main_call0_c_0, ReferenceIdeal.main_v53),
    (main_call0_cst, ReferenceIdeal.main_v61)]

open Cert.KernelIdeal in
/-- The buffers that agree once the soft-argmax sum over the patch is formed. -/
abbrev live2 : Pairs Cert.KernelIdeal.sig Cert.ReferenceIdeal.sig :=
  [(main_call0_v4, ReferenceIdeal.main_v62), (main_call0_v53, ReferenceIdeal.main_v105), (main_call0_cst, ReferenceIdeal.main_v61),
    (main_call0_v37, ReferenceIdeal.main_v95), (main_call0_v46, ReferenceIdeal.main_v104), (main_call0_cst_1, ReferenceIdeal.main_cst),
    (main_call0_v44, ReferenceIdeal.main_v102)]

open Cert.KernelIdeal in
/-- The three results. -/
abbrev results : Pairs Cert.KernelIdeal.sig Cert.ReferenceIdeal.sig :=
  [(main_v0_0, ReferenceIdeal.main_v130), (main_v0_1, ReferenceIdeal.main_v121), (main_v0_2, ReferenceIdeal.main_v289)]

variable {F : FTy → Type} [FloatOps F]

/-- The argument with two rows and two columns of zeros on every side of each image. -/
def padded (x : FVec F ReferenceIdeal.S4x1x512x512 .f32) : FVec F ReferenceIdeal.S4x516x516 .f32 :=
  pad ReferenceIdeal.S4x516x516 ![0, 2, 2] ![0, 2, 2] ![0, 0, 0]
    (shapeCast ReferenceIdeal.S4x512x512 x ReferenceIdeal.Gen.shapeCasts_S4x1x512x512_S4x512x512)
    (sitofp (F := F) .f32 (constantI ReferenceIdeal.S_ 32 0#32)) ReferenceIdeal.Gen.pads_S4x512x512_S4x516x516_000_220_220
    ReferenceIdeal.Gen.h_S_

open Cert.KernelIdeal Cert.KernelIdeal.Gen in
/-- What holds of the two programs' buffers when the kernel's region has ended and the reference has multiplied out
    its border: the same argument, the same limits, the kernel's three tables, and the same scores once they are
    ranked as lists. -/
structure Start (V : Valuation Cert.KernelIdeal.τ Cert.KernelIdeal.sig (Elt F))
    (W : Valuation Cert.ReferenceIdeal.τ Cert.ReferenceIdeal.sig (Elt F)) : Prop where
  /-- The argument. -/
  arg : (V (Proc.devRef .tc main_arg0) : FVec F S4x1x512x512 .f32) = W (Proc.devRef .tc ReferenceIdeal.main_arg0)
  /-- The largest coordinate. -/
  limit : (V (Proc.devRef .tc main_call0_cst_1) : FVec F S2 .f32) = W (Proc.devRef .tc ReferenceIdeal.main_cst)
  /-- The table of row offsets. -/
  rows : (V (Proc.devRef .tc main_call0_c) : IVec S25 32) = fun i => lit0 (S25.rowMajor i)
  /-- The table of column offsets. -/
  cols : (V (Proc.devRef .tc main_call0_c_0) : IVec S25 32) = fun i => lit1 (S25.rowMajor i)
  /-- The table of both offsets. -/
  offsets : (V (Proc.devRef .tc main_call0_cst) : FVec F S25x2 .f32) = Grid.table
  /-- The suppressed scores, each image a list. -/
  scores : shapeCast S4x262144 (V (Proc.devRef .tc main_call0_v0) : FVec F S4x512x512 .f32) shapeCasts_S4x512x512_S4x262144
    = shapeCast S4x262144 (Nms.bordered (W (Proc.devRef .tc ReferenceIdeal.main_v28)) (W (Proc.devRef .tc ReferenceIdeal.main_v41)))
        ReferenceIdeal.Gen.shapeCasts_S4x1x512x512_S4x262144

open Cert.ReferenceIdeal.Value (ops_part1_0 ops_part1_1 ops_part1_2 ops_part1_3 ops_part2 ops_part3_0 ops_part3_1 ops_part3_2
  ops_part4_0 ops_part4_1 ops_part4_2 ops_part5_0 ops_part5_1 ops_part5_2 ops_part6) in
/-- **The operations after the region agree**, provided the two ways to the patch offsets and the two products with
    them agree. -/
theorem tail (hg : Grid.built (F := F) = Grid.table)
    (hd : ∀ (x : FVec F ReferenceIdeal.S4x4096x25 .f32) (g : FVec F ReferenceIdeal.S25x2 .f32), Grid.summed x g
      = Host.dotGeneral ReferenceIdeal.dot_S4x4096x25_S25x2_S4x4096x2_2_0_01_1_n_n none x g) :
    Sim Start (Cert.KernelIdeal.Gen.hostOps1 (F := F))
    (ops_part1_0 ++ (ops_part1_1 ++ (ops_part1_2 ++ (ops_part1_3 ++ (ops_part2 ++ (ops_part3_0 ++ (ops_part3_1 ++ (ops_part3_2
      ++ (ops_part4_0 ++ (ops_part4_1 ++ (ops_part4_2 ++ (ops_part5_0 ++ (ops_part5_1 ++ (ops_part5_2 ++ (ops_part6 ++ []))))))))))))))) results := by
  -- the ranking of the scores and the patch offsets
  refine Sim.aside ?_
  iterate 7 with_reducible refine Sim.asideL ?_
  iterate 30 with_reducible refine Sim.asideR ?_
  with_reducible refine Sim.part ?_
  iterate 16 with_reducible refine Sim.asideR ?_
  refine Sim.resume live1 ?_ ?_
  · intro V W h
    simp only [List.nil_append, List.cons_append]
    refine List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_cons.2 ⟨?_, nofun⟩⟩⟩⟩⟩⟩⟩ <;> after_results_simp
    · exact heq_of_eq h.arg
    · exact heq_of_eq h.limit
    · exact heq_of_eq (congrArg (fun x => (Host.topK ReferenceIdeal.S4x4096 1 (FloatOps.cmpfTotal .gt) x
        ReferenceIdeal.Gen.sliceFits_S4x262144_S4x4096).2) h.scores)
    · exact heq_of_eq (congrArg padded h.arg)
    · exact heq_of_eq (h.rows.trans Grid.rows_eq.symm)
    · exact heq_of_eq (h.cols.trans Grid.cols_eq.symm)
    · exact heq_of_eq (h.offsets.trans hg.symm)
  -- the gather of the patches and their weights
  iterate 91 first
    | with_reducible refine Sim.unary ?_ ?_ ?_ ?_ ?_
      iterate 3 decide +kernel
      · intro u u' h; have h := eq_of_heq h; subst h; try simp only [TRef.toBuf, TRef.ofBuf, cast_eq]; exact HEq.rfl
    | with_reducible refine Sim.binary ?_ ?_ ?_ ?_ ?_ ?_
      iterate 4 decide +kernel
      · intro u u' h w w' h'; have h := eq_of_heq h; subst h; have h' := eq_of_heq h'; subst h'; try simp only [TRef.toBuf, TRef.ofBuf, cast_eq]; exact HEq.rfl
    | with_reducible refine Sim.nullary ?_ ?_ ?_ ?_
      iterate 2 decide +kernel
      · exact HEq.rfl
    | with_reducible refine Sim.ternary ?_ ?_ ?_ ?_ ?_ ?_ ?_
      iterate 5 decide +kernel
      · intro v v' h₀ u u' h w w' h'; have h₀ := eq_of_heq h₀; subst h₀; have h := eq_of_heq h; subst h; have h' := eq_of_heq h'; subst h'; try simp only [TRef.toBuf, TRef.ofBuf, cast_eq]; exact HEq.rfl
    | with_reducible refine Sim.part ?_
    | refine Sim.reshape ?_ ?_ ?_ ?_ ?_
      iterate 3 decide +kernel
      · intro u u' h; have h := eq_of_heq h; subst h; try simp only [TRef.toBuf, TRef.ofBuf, cast_eq]; exact HEq.rfl
  -- the weights' product with the offsets
  refine Sim.aside ?_
  iterate 8 with_reducible refine Sim.asideL ?_
  with_reducible refine Sim.asideR ?_
  refine Sim.resume live2 ?_ ?_
  · intro V W h
    simp only [List.nil_append, List.cons_append]
    refine List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_cons.2 ⟨?_, nofun⟩⟩⟩⟩⟩⟩⟩ <;> after_results_simp
    · exact h (Cert.KernelIdeal.main_call0_v4, ReferenceIdeal.main_v62) (by decide +kernel)
    · have hx := eq_of_heq (h (Cert.KernelIdeal.main_call0_v44, ReferenceIdeal.main_v102) (by decide +kernel))
      have ho := eq_of_heq (h (Cert.KernelIdeal.main_call0_cst, ReferenceIdeal.main_v61) (by decide +kernel))
      exact heq_of_eq ((congrArg₂ Grid.summed hx ho).trans (hd _ _))
    · exact h (Cert.KernelIdeal.main_call0_cst, ReferenceIdeal.main_v61) (by decide +kernel)
    · exact h (Cert.KernelIdeal.main_call0_v37, ReferenceIdeal.main_v95) (by decide +kernel)
    · exact h (Cert.KernelIdeal.main_call0_v46, ReferenceIdeal.main_v104) (by decide +kernel)
    · exact h (Cert.KernelIdeal.main_call0_cst_1, ReferenceIdeal.main_cst) (by decide +kernel)
    · exact h (Cert.KernelIdeal.main_call0_v44, ReferenceIdeal.main_v102) (by decide +kernel)
  -- the residual, the dispersity, the keypoints and the bilinear sample
  iterate 314 first
    | with_reducible refine Sim.unary ?_ ?_ ?_ ?_ ?_
      iterate 3 decide +kernel
      · intro u u' h; have h := eq_of_heq h; subst h; try simp only [TRef.toBuf, TRef.ofBuf, cast_eq]; exact HEq.rfl
    | with_reducible refine Sim.binary ?_ ?_ ?_ ?_ ?_ ?_
      iterate 4 decide +kernel
      · intro u u' h w w' h'; have h := eq_of_heq h; subst h; have h' := eq_of_heq h'; subst h'; try simp only [TRef.toBuf, TRef.ofBuf, cast_eq]; exact HEq.rfl
    | with_reducible refine Sim.nullary ?_ ?_ ?_ ?_
      iterate 2 decide +kernel
      · exact HEq.rfl
    | with_reducible refine Sim.ternary ?_ ?_ ?_ ?_ ?_ ?_ ?_
      iterate 5 decide +kernel
      · intro v v' h₀ u u' h w w' h'; have h₀ := eq_of_heq h₀; subst h₀; have h := eq_of_heq h; subst h; have h' := eq_of_heq h'; subst h'; try simp only [TRef.toBuf, TRef.ofBuf, cast_eq]; exact HEq.rfl
    | with_reducible refine Sim.part ?_
    | refine Sim.reshape ?_ ?_ ?_ ?_ ?_
      iterate 3 decide +kernel
      · intro u u' h; have h := eq_of_heq h; subst h; try simp only [TRef.toBuf, TRef.ofBuf, cast_eq]; exact HEq.rfl
  exact Sim.done (List.forall_mem_cons.2 ⟨by decide +kernel, List.forall_mem_cons.2 ⟨by decide +kernel,
    List.forall_mem_cons.2 ⟨by decide +kernel, nofun⟩⟩⟩)

end Cert.Proof

end
-- ==== Proof.Claims.lean ====
/-
  The claims: both programs run and leave their argument, and their three results are equal over the extended reals.
-/
module

public import proofs.«01_k».proof.Defs
public import proofs.«01_k».proof.Proof.Gen.Kernel.Frame
public import proofs.«01_k».proof.Proof.Region
public import proofs.«01_k».proof.Proof.Tail
public import Idealize.ShloMosaic.Lib.Quiescent

@[expose] public section

set_option maxRecDepth 60000
set_option maxHeartbeats 0

noncomputable section

namespace Cert.Proof

open Idealize.ShloMosaic Idealize.ShloMosaic.TcCoe Idealize.ShloMosaic.StableHlo Idealize.SL.Sem

section Kernel

open Cert.KernelIdeal Cert.KernelIdeal.Gen

variable {F : FTy → Type} [FloatOps F]
variable (m : (ℓ : Loc nD τ sig) → Buf (Elt F) ℓ)

/-- The kernel's buffers when its region has ended. -/
def regionEnd (c : Dev nD) : Valuation τ sig (Elt F) :=
  Pipeline.withArrays spec0 c (V0 m c) fun w => (dats m 0 c).arrAt w cfg0.N

/-- The two windows stand on two arrays. -/
theorem arrays_distinct : Function.Injective (Pipeline.arrRef spec0) := by decide

/-- The argument at the region's end. -/
theorem regionEnd_arg (c : Dev nD) : regionEnd m c (Proc.devRef .tc main_arg0) = m ((c : Thread nD τ).loc main_arg0) :=
  (Pipeline.withArrays_arr spec0 arrays_distinct c _ _ 0).trans
    (((dats m 0 c).arrAt_in 0 rfl _).trans ((A_eq m c 0).trans (V_main_arg0 m c)))

/-- The suppressed scores at the region's end. -/
theorem regionEnd_scores (c : Dev nD) : regionEnd m c (Proc.devRef .tc main_call0_v0) = Nms.scores (m ((c : Thread nD τ).loc main_arg0)) :=
  (Pipeline.withArrays_arr spec0 arrays_distinct c _ _ 1).trans (Nms.final m c)

/-- Any other buffer at the region's end is as the region found it. -/
theorem regionEnd_other (c : Dev nD) (b : Ref sig .tc) (hb : ∀ w, Pipeline.arrRef spec0 w ≠ b) :
    regionEnd m c (Proc.devRef .tc b) = V0 m c (Proc.devRef .tc b) :=
  Pipeline.withArrays_of_ne spec0 c _ _ b hb

/-- The kernel's run: each result is what the operations after the region make of its end, and the argument is unchanged. -/
theorem kernel_run (ρ : Dev nD → PrngReg) : θ_run defs (onTc (τ := τ) (main (F := F))) ⟨m, fun _ => 0, ρ⟩ fun r => ∀ c : Dev nD,
    r.2.mem ((c : Thread nD τ).loc main_v0_0) = after hostOps1 (regionEnd m c) (Proc.devRef .tc main_v0_0)
    ∧ r.2.mem ((c : Thread nD τ).loc main_v0_1) = after hostOps1 (regionEnd m c) (Proc.devRef .tc main_v0_1)
    ∧ r.2.mem ((c : Thread nD τ).loc main_v0_2) = after hostOps1 (regionEnd m c) (Proc.devRef .tc main_v0_2)
    ∧ r.2.mem ((c : Thread nD τ).loc main_arg0) = m ((c : Thread nD τ).loc main_arg0) := by
  have hread : ∀ (c : Dev nD) (b : Ref sig .tc), Pipeline.afterTail₀ cfgs (dats m) 0 (V0 m) [hostOps1] c b
      = after hostOps1 (regionEnd m c) (Proc.devRef .tc b) := by
    intro c b
    unfold Pipeline.afterTail₀ regionEnd
    rw [List.flatten_singleton]
  refine (θ_run defs _ _).mono (fun r h c => ⟨?_, ?_, ?_, ?_⟩) (run_main m ρ)
  · exact ((h c).2 main_v0_0 (Pipeline.mem_restRefs_of main_v0_0 (by decide) (by decide))).trans (hread c _)
  · exact ((h c).2 main_v0_1 (Pipeline.mem_restRefs_of main_v0_1 (by decide) (by decide))).trans (hread c _)
  · exact ((h c).2 main_v0_2 (Pipeline.mem_restRefs_of main_v0_2 (by decide) (by decide))).trans (hread c _)
  · exact ((h c).1 0).trans (((dats m 0 c).arrAt_in 0 rfl _).trans ((A_eq m c 0).trans (V_main_arg0 m c)))

end Kernel

section Reference

open Cert.ReferenceIdeal Cert.ReferenceIdeal.Value

variable {F : FTy → Type} [FloatOps F]

/-- The reference's scores before the border is removed, by its first operations. -/
theorem kept_eq (W : Valuation τ sig (Elt F)) :
    val1 W (Proc.devRef .tc main_v28) = Nms.kept4 (F := F) (W (Proc.devRef .tc main_arg0)) :=
  (val1_main_v28 W).trans rfl

/-- The reference's border, by its first operations. -/
theorem border_eq (W : Valuation τ sig (Elt F)) : val1 W (Proc.devRef .tc main_v41) = Nms.border (F := F) :=
  (val1_main_v41 W).trans rfl

/-- The reference's operations are its first stretch, then the ones compared with the kernel's. -/
theorem after_first (W : Valuation τ sig (Elt F)) : after ops W =
    after (ops_part1_0 ++ (ops_part1_1 ++ (ops_part1_2 ++ (ops_part1_3 ++ (ops_part2 ++ (ops_part3_0 ++ (ops_part3_1 ++ (ops_part3_2
      ++ (ops_part4_0 ++ (ops_part4_1 ++ (ops_part4_2 ++ (ops_part5_0 ++ (ops_part5_1 ++ (ops_part5_2 ++ (ops_part6 ++ [])))))))))))))))
      (val1 W) := by
  unfold ops ops_part1 ops_part3 ops_part4 ops_part5 val1 val0
  rw [after_append]
  simp only [List.append_assoc, List.append_nil]

/-- The reference's run: each result is what its operations make of the launch, and the argument is unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      (∀ b : Ref sig .tc, r.2.mem ((c : Thread nD τ).loc b) = after ops (launchContents m c) (Proc.devRef .tc b))
      ∧ r.2.mem ((c : Thread nD τ).loc main_arg0) = m ((c : Thread nD τ).loc main_arg0) :=
  (θ_run defs _ _).mono (fun _ h c => ⟨h.1 c, (h.2 c).2.2.2⟩)
    (θ_run_and (run_seq scopedRefs_eq scopedSems_eq defs main (fun _ => ops) main_eq (fun _ => ops_sub) m ρ fun _ => ops_fresh)
      (run m ρ))

end Reference

/-- The contents the comparison starts from: the kernel's region has ended and the reference has its border. -/
theorem start (m : (ℓ : Loc KernelIdeal.nD KernelIdeal.τ KernelIdeal.sig) → Buf (Elt Ideal) ℓ) (c : Dev KernelIdeal.nD)
    (W : Valuation ReferenceIdeal.τ ReferenceIdeal.sig (Elt Ideal))
    (hW : (W (Proc.devRef .tc ReferenceIdeal.main_arg0) : FVec Ideal ReferenceIdeal.S4x1x512x512 .f32)
      = m ((c : Thread KernelIdeal.nD KernelIdeal.τ).loc KernelIdeal.main_arg0)) :
    Start (regionEnd m c) (ReferenceIdeal.Value.val1 W) where
  arg := (regionEnd_arg m c).trans (hW.symm.trans (ReferenceIdeal.Value.val1_main_arg0 W).symm)
  limit := by
    refine (regionEnd_other m c KernelIdeal.main_call0_cst_1 (by decide)).trans (Eq.trans ?_ (ReferenceIdeal.Value.val1_main_cst W).symm)
    unfold KernelIdeal.Gen.V0
    rw [List.flatten_singleton]
    after_results_simp
    rfl
  rows := by
    refine (regionEnd_other m c KernelIdeal.main_call0_c (by decide)).trans ?_
    unfold KernelIdeal.Gen.V0
    rw [List.flatten_singleton]
    after_results_simp
    rfl
  cols := by
    refine (regionEnd_other m c KernelIdeal.main_call0_c_0 (by decide)).trans ?_
    unfold KernelIdeal.Gen.V0
    rw [List.flatten_singleton]
    after_results_simp
    rfl
  offsets := by
    refine (regionEnd_other m c KernelIdeal.main_call0_cst (by decide)).trans ?_
    unfold KernelIdeal.Gen.V0
    rw [List.flatten_singleton]
    after_results_simp
    rfl
  scores := by
    rw [kept_eq, border_eq, regionEnd_scores, hW]
    exact Nms.ranked_eq _

/-- The kernel's run leaves its argument and its counters. -/
theorem frame_kernel : Cert.quiescent_Kernel (hKernel := Cert.Kernel.Gen.facts) :=
  fun m ρ _ => Cert.Kernel.Gen.frame m ρ

/-- The kernel's run over the extended reals leaves its argument and its counters. -/
theorem frame_kernelIdeal : Cert.quiescent_KernelIdeal (hKernelIdeal := Cert.KernelIdeal.Gen.facts) :=
  fun m ρ _ => Cert.KernelIdeal.Gen.frame m ρ

/-- The reference's run over the extended reals leaves its argument; it has no counters. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩) (reference_run (F := Ideal) m ρ)

/-- **The value claim**: the kernel's three results are the reference's. -/
theorem algebraic : Cert.algebraic_KernelIdeal_ReferenceIdeal (hKernelIdeal := Cert.KernelIdeal.Gen.facts)
    (hReferenceIdeal := Cert.ReferenceIdeal.Gen.facts) := by
  intro m ρ m' ρ' _ hagree
  have hA : ∀ c : Dev KernelIdeal.nD, Agree results (after KernelIdeal.Gen.hostOps1 (regionEnd m c))
      (after ReferenceIdeal.Value.ops (launchContents m' c)) := by
    intro c
    rw [after_first]
    exact tail Grid.built_eq Grid.summed_eq _ _ (start m c _ (hagree c))
  refine ⟨fun c => after KernelIdeal.Gen.hostOps1 (regionEnd m c) (Proc.devRef .tc KernelIdeal.main_v0_0),
    fun c => after KernelIdeal.Gen.hostOps1 (regionEnd m c) (Proc.devRef .tc KernelIdeal.main_v0_1),
    fun c => after KernelIdeal.Gen.hostOps1 (regionEnd m c) (Proc.devRef .tc KernelIdeal.main_v0_2), kernel_run m ρ, ?_⟩
  refine (θ_run Cert.ReferenceIdeal.defs _ _).mono (fun r h c => ⟨?_, ?_, ?_, (h c).2⟩) (reference_run (F := Ideal) m' ρ')
  · exact ((h c).1 _).trans (eq_of_heq (hA c (KernelIdeal.main_v0_0, ReferenceIdeal.main_v130) (by simp [results]))).symm
  · exact ((h c).1 _).trans (eq_of_heq (hA c (KernelIdeal.main_v0_1, ReferenceIdeal.main_v121) (by simp [results]))).symm
  · exact ((h c).1 _).trans (eq_of_heq (hA c (KernelIdeal.main_v0_2, ReferenceIdeal.main_v289) (by simp [results]))).symm

end Cert.Proof

end
-- ==== Proof.lean ====
/-
  The proof of `Cert.Claim`: the witnesses of the programs' stated facts, then the five claims of `Proof/Claims.lean`.
-/
module

public import proofs.«01_k».proof.Defs
public import proofs.«01_k».proof.Proof.Claims
public import Idealize.ShloMosaic.Init

@[expose] public section

noncomputable section

namespace Cert.Proof

/-- Everything claimed: the three runs leave their argument and counters, the idealization is the kernel's own text,
    and the three results of kernel and reference are equal. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
